-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![16384, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x512 : Shape := ⟨2, ![1, 512]⟩
abbrev S16x1x512 : Shape := ⟨3, ![16, 1, 512]⟩
abbrev S16 : Shape := ⟨1, ![16]⟩
abbrev S_ : Shape := ⟨0, ![]⟩
abbrev S512 : Shape := ⟨1, ![512]⟩
abbrev S1 : Shape := ⟨1, ![1]⟩
abbrev S1x1x512 : Shape := ⟨3, ![1, 1, 512]⟩
abbrev S128x128 : Shape := ⟨2, ![128, 128]⟩
abbrev S128x512 : Shape := ⟨2, ![128, 512]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x512, .f32⟩
  | .local _ .vmem, ⟨4, _⟩ => ⟨S16x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_53 : BitVec 32 := 0#32
  let v43 : BitVec 1 := Scalar.cmpi .slt v2 c0_i32_53
  let v44 : BitVec 32 := Scalar.extui v43
  let c0_i32_55 : BitVec 32 := 0#32
  let v45 : BitVec 1 := Scalar.cmpi .ne v44 c0_i32_55
  v45

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev17 : Nat :=
  let c0_i32_214 : BitVec 32 := 0#32
  let c0_i32_212 : BitVec 32 := 0#32
  let c1_i32_213 : BitVec 32 := 1#32
  let v260 : BitVec 32 := Scalar.muli c0_i32_212 c1_i32_213
  let v261 : BitVec 32 := Scalar.addi c0_i32_214 v260
  v261.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_56 : BitVec 32 := 1#32
  let v46 : BitVec 1 := Scalar.cmpi .slt v2 c1_i32_56
  let v47 : BitVec 32 := Scalar.extui v46
  let c0_i32_58 : BitVec 32 := 0#32
  let v48 : BitVec 1 := Scalar.cmpi .ne v47 c0_i32_58
  v48

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev18 : Nat :=
  let c0_i32_214 : BitVec 32 := 0#32
  let c1_i32_212 : BitVec 32 := 1#32
  let c1_i32_213 : BitVec 32 := 1#32
  let v260 : BitVec 32 := Scalar.muli c1_i32_212 c1_i32_213
  let v261 : BitVec 32 := Scalar.addi c0_i32_214 v260
  v261.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_59 : BitVec 32 := 2#32
  let v49 : BitVec 1 := Scalar.cmpi .slt v2 c2_i32_59
  let v50 : BitVec 32 := Scalar.extui v49
  let c0_i32_61 : BitVec 32 := 0#32
  let v51 : BitVec 1 := Scalar.cmpi .ne v50 c0_i32_61
  v51

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev19 : Nat :=
  let c0_i32_214 : BitVec 32 := 0#32
  let c2_i32_212 : BitVec 32 := 2#32
  let c1_i32_213 : BitVec 32 := 1#32
  let v260 : BitVec 32 := Scalar.muli c2_i32_212 c1_i32_213
  let v261 : BitVec 32 := Scalar.addi c0_i32_214 v260
  v261.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_62 : BitVec 32 := 3#32
  let v52 : BitVec 1 := Scalar.cmpi .slt v2 c3_i32_62
  let v53 : BitVec 32 := Scalar.extui v52
  let c0_i32_64 : BitVec 32 := 0#32
  let v54 : BitVec 1 := Scalar.cmpi .ne v53 c0_i32_64
  v54

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev20 : Nat :=
  let c0_i32_214 : BitVec 32 := 0#32
  let c3_i32_212 : BitVec 32 := 3#32
  let c1_i32_213 : BitVec 32 := 1#32
  let v260 : BitVec 32 := Scalar.muli c3_i32_212 c1_i32_213
  let v261 : BitVec 32 := Scalar.addi c0_i32_214 v260
  v261.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_65 : BitVec 32 := 4#32
  let v55 : BitVec 1 := Scalar.cmpi .slt v2 c4_i32_65
  let v56 : BitVec 32 := Scalar.extui v55
  let c0_i32_67 : BitVec 32 := 0#32
  let v57 : BitVec 1 := Scalar.cmpi .ne v56 c0_i32_67
  v57

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev21 : Nat :=
  let c0_i32_214 : BitVec 32 := 0#32
  let c4_i32_212 : BitVec 32 := 4#32
  let c1_i32_213 : BitVec 32 := 1#32
  let v260 : BitVec 32 := Scalar.muli c4_i32_212 c1_i32_213
  let v261 : BitVec 32 := Scalar.addi c0_i32_214 v260
  v261.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_68 : BitVec 32 := 5#32
  let v58 : BitVec 1 := Scalar.cmpi .slt v2 c5_i32_68
  let v59 : BitVec 32 := Scalar.extui v58
  let c0_i32_70 : BitVec 32 := 0#32
  let v60 : BitVec 1 := Scalar.cmpi .ne v59 c0_i32_70
  v60

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev22 : Nat :=
  let c0_i32_214 : BitVec 32 := 0#32
  let c5_i32_212 : BitVec 32 := 5#32
  let c1_i32_213 : BitVec 32 := 1#32
  let v260 : BitVec 32 := Scalar.muli c5_i32_212 c1_i32_213
  let v261 : BitVec 32 := Scalar.addi c0_i32_214 v260
  v261.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_71 : BitVec 32 := 6#32
  let v61 : BitVec 1 := Scalar.cmpi .slt v2 c6_i32_71
  let v62 : BitVec 32 := Scalar.extui v61
  let c0_i32_73 : BitVec 32 := 0#32
  let v63 : BitVec 1 := Scalar.cmpi .ne v62 c0_i32_73
  v63

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev23 : Nat :=
  let c0_i32_214 : BitVec 32 := 0#32
  let c6_i32_212 : BitVec 32 := 6#32
  let c1_i32_213 : BitVec 32 := 1#32
  let v260 : BitVec 32 := Scalar.muli c6_i32_212 c1_i32_213
  let v261 : BitVec 32 := Scalar.addi c0_i32_214 v260
  v261.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_74 : BitVec 32 := 7#32
  let v64 : BitVec 1 := Scalar.cmpi .slt v2 c7_i32_74
  let v65 : BitVec 32 := Scalar.extui v64
  let c0_i32_76 : BitVec 32 := 0#32
  let v66 : BitVec 1 := Scalar.cmpi .ne v65 c0_i32_76
  v66

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev24 : Nat :=
  let c0_i32_214 : BitVec 32 := 0#32
  let c7_i32_212 : BitVec 32 := 7#32
  let c1_i32_213 : BitVec 32 := 1#32
  let v260 : BitVec 32 := Scalar.muli c7_i32_212 c1_i32_213
  let v261 : BitVec 32 := Scalar.addi c0_i32_214 v260
  v261.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_77 : BitVec 32 := 8#32
  let v67 : BitVec 1 := Scalar.cmpi .slt v2 c8_i32_77
  let v68 : BitVec 32 := Scalar.extui v67
  let c0_i32_79 : BitVec 32 := 0#32
  let v69 : BitVec 1 := Scalar.cmpi .ne v68 c0_i32_79
  v69

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev25 : Nat :=
  let c0_i32_214 : BitVec 32 := 0#32
  let c8_i32_212 : BitVec 32 := 8#32
  let c1_i32_213 : BitVec 32 := 1#32
  let v260 : BitVec 32 := Scalar.muli c8_i32_212 c1_i32_213
  let v261 : BitVec 32 := Scalar.addi c0_i32_214 v260
  v261.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_80 : BitVec 32 := 9#32
  let v70 : BitVec 1 := Scalar.cmpi .slt v2 c9_i32_80
  let v71 : BitVec 32 := Scalar.extui v70
  let c0_i32_82 : BitVec 32 := 0#32
  let v72 : BitVec 1 := Scalar.cmpi .ne v71 c0_i32_82
  v72

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev26 : Nat :=
  let c0_i32_214 : BitVec 32 := 0#32
  let c9_i32_212 : BitVec 32 := 9#32
  let c1_i32_213 : BitVec 32 := 1#32
  let v260 : BitVec 32 := Scalar.muli c9_i32_212 c1_i32_213
  let v261 : BitVec 32 := Scalar.addi c0_i32_214 v260
  v261.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_83 : BitVec 32 := 10#32
  let v73 : BitVec 1 := Scalar.cmpi .slt v2 c10_i32_83
  let v74 : BitVec 32 := Scalar.extui v73
  let c0_i32_85 : BitVec 32 := 0#32
  let v75 : BitVec 1 := Scalar.cmpi .ne v74 c0_i32_85
  v75

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev27 : Nat :=
  let c0_i32_214 : BitVec 32 := 0#32
  let c10_i32_212 : BitVec 32 := 10#32
  let c1_i32_213 : BitVec 32 := 1#32
  let v260 : BitVec 32 := Scalar.muli c10_i32_212 c1_i32_213
  let v261 : BitVec 32 := Scalar.addi c0_i32_214 v260
  v261.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_86 : BitVec 32 := 11#32
  let v76 : BitVec 1 := Scalar.cmpi .slt v2 c11_i32_86
  let v77 : BitVec 32 := Scalar.extui v76
  let c0_i32_88 : BitVec 32 := 0#32
  let v78 : BitVec 1 := Scalar.cmpi .ne v77 c0_i32_88
  v78

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev28 : Nat :=
  let c0_i32_214 : BitVec 32 := 0#32
  let c11_i32_212 : BitVec 32 := 11#32
  let c1_i32_213 : BitVec 32 := 1#32
  let v260 : BitVec 32 := Scalar.muli c11_i32_212 c1_i32_213
  let v261 : BitVec 32 := Scalar.addi c0_i32_214 v260
  v261.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_89 : BitVec 32 := 12#32
  let v79 : BitVec 1 := Scalar.cmpi .slt v2 c12_i32_89
  let v80 : BitVec 32 := Scalar.extui v79
  let c0_i32_91 : BitVec 32 := 0#32
  let v81 : BitVec 1 := Scalar.cmpi .ne v80 c0_i32_91
  v81

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev29 : Nat :=
  let c0_i32_214 : BitVec 32 := 0#32
  let c12_i32_212 : BitVec 32 := 12#32
  let c1_i32_213 : BitVec 32 := 1#32
  let v260 : BitVec 32 := Scalar.muli c12_i32_212 c1_i32_213
  let v261 : BitVec 32 := Scalar.addi c0_i32_214 v260
  v261.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_92 : BitVec 32 := 13#32
  let v82 : BitVec 1 := Scalar.cmpi .slt v2 c13_i32_92
  let v83 : BitVec 32 := Scalar.extui v82
  let c0_i32_94 : BitVec 32 := 0#32
  let v84 : BitVec 1 := Scalar.cmpi .ne v83 c0_i32_94
  v84

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev30 : Nat :=
  let c0_i32_214 : BitVec 32 := 0#32
  let c13_i32_212 : BitVec 32 := 13#32
  let c1_i32_213 : BitVec 32 := 1#32
  let v260 : BitVec 32 := Scalar.muli c13_i32_212 c1_i32_213
  let v261 : BitVec 32 := Scalar.addi c0_i32_214 v260
  v261.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_95 : BitVec 32 := 14#32
  let v85 : BitVec 1 := Scalar.cmpi .slt v2 c14_i32_95
  let v86 : BitVec 32 := Scalar.extui v85
  let c0_i32_97 : BitVec 32 := 0#32
  let v87 : BitVec 1 := Scalar.cmpi .ne v86 c0_i32_97
  v87

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev31 : Nat :=
  let c0_i32_214 : BitVec 32 := 0#32
  let c14_i32_212 : BitVec 32 := 14#32
  let c1_i32_213 : BitVec 32 := 1#32
  let v260 : BitVec 32 := Scalar.muli c14_i32_212 c1_i32_213
  let v261 : BitVec 32 := Scalar.addi c0_i32_214 v260
  v261.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_98 : BitVec 32 := 15#32
  let v88 : BitVec 1 := Scalar.cmpi .slt v2 c15_i32_98
  let v89 : BitVec 32 := Scalar.extui v88
  let c0_i32_100 : BitVec 32 := 0#32
  let v90 : BitVec 1 := Scalar.cmpi .ne v89 c0_i32_100
  v90

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let c0_i32_216 : BitVec 32 := 0#32
  ![v2.toNat, 0, 0]
def k0_dev32 : Nat :=
  let c0_i32_214 : BitVec 32 := 0#32
  let c15_i32_212 : BitVec 32 := 15#32
  let c1_i32_213 : BitVec 32 := 1#32
  let v260 : BitVec 32 := Scalar.muli c15_i32_212 c1_i32_213
  let v261 : BitVec 32 := Scalar.addi c0_i32_214 v260
  v261.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let v212 : BitVec 1 := Scalar.cmpi .slt v2 c0_i32_164
  let v213 : BitVec 32 := Scalar.extui v212
  let c0_i32_166 : BitVec 32 := 0#32
  let v214 : BitVec 1 := Scalar.cmpi .ne v213 c0_i32_166
  v214

def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_167 : BitVec 32 := 1#32
  let v215 : BitVec 1 := Scalar.cmpi .slt v2 c1_i32_167
  let v216 : BitVec 32 := Scalar.extui v215
  let c0_i32_169 : BitVec 32 := 0#32
  let v217 : BitVec 1 := Scalar.cmpi .ne v216 c0_i32_169
  v217

def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_170 : BitVec 32 := 2#32
  let v218 : BitVec 1 := Scalar.cmpi .slt v2 c2_i32_170
  let v219 : BitVec 32 := Scalar.extui v218
  let c0_i32_172 : BitVec 32 := 0#32
  let v220 : BitVec 1 := Scalar.cmpi .ne v219 c0_i32_172
  v220

def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_173 : BitVec 32 := 3#32
  let v221 : BitVec 1 := Scalar.cmpi .slt v2 c3_i32_173
  let v222 : BitVec 32 := Scalar.extui v221
  let c0_i32_175 : BitVec 32 := 0#32
  let v223 : BitVec 1 := Scalar.cmpi .ne v222 c0_i32_175
  v223

def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_176 : BitVec 32 := 4#32
  let v224 : BitVec 1 := Scalar.cmpi .slt v2 c4_i32_176
  let v225 : BitVec 32 := Scalar.extui v224
  let c0_i32_178 : BitVec 32 := 0#32
  let v226 : BitVec 1 := Scalar.cmpi .ne v225 c0_i32_178
  v226

def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_179 : BitVec 32 := 5#32
  let v227 : BitVec 1 := Scalar.cmpi .slt v2 c5_i32_179
  let v228 : BitVec 32 := Scalar.extui v227
  let c0_i32_181 : BitVec 32 := 0#32
  let v229 : BitVec 1 := Scalar.cmpi .ne v228 c0_i32_181
  v229

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_182 : BitVec 32 := 6#32
  let v230 : BitVec 1 := Scalar.cmpi .slt v2 c6_i32_182
  let v231 : BitVec 32 := Scalar.extui v230
  let c0_i32_184 : BitVec 32 := 0#32
  let v232 : BitVec 1 := Scalar.cmpi .ne v231 c0_i32_184
  v232

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_185 : BitVec 32 := 7#32
  let v233 : BitVec 1 := Scalar.cmpi .slt v2 c7_i32_185
  let v234 : BitVec 32 := Scalar.extui v233
  let c0_i32_187 : BitVec 32 := 0#32
  let v235 : BitVec 1 := Scalar.cmpi .ne v234 c0_i32_187
  v235

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_188 : BitVec 32 := 8#32
  let v236 : BitVec 1 := Scalar.cmpi .slt v2 c8_i32_188
  let v237 : BitVec 32 := Scalar.extui v236
  let c0_i32_190 : BitVec 32 := 0#32
  let v238 : BitVec 1 := Scalar.cmpi .ne v237 c0_i32_190
  v238

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_191 : BitVec 32 := 9#32
  let v239 : BitVec 1 := Scalar.cmpi .slt v2 c9_i32_191
  let v240 : BitVec 32 := Scalar.extui v239
  let c0_i32_193 : BitVec 32 := 0#32
  let v241 : BitVec 1 := Scalar.cmpi .ne v240 c0_i32_193
  v241

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_194 : BitVec 32 := 10#32
  let v242 : BitVec 1 := Scalar.cmpi .slt v2 c10_i32_194
  let v243 : BitVec 32 := Scalar.extui v242
  let c0_i32_196 : BitVec 32 := 0#32
  let v244 : BitVec 1 := Scalar.cmpi .ne v243 c0_i32_196
  v244

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_197 : BitVec 32 := 11#32
  let v245 : BitVec 1 := Scalar.cmpi .slt v2 c11_i32_197
  let v246 : BitVec 32 := Scalar.extui v245
  let c0_i32_199 : BitVec 32 := 0#32
  let v247 : BitVec 1 := Scalar.cmpi .ne v246 c0_i32_199
  v247

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_200 : BitVec 32 := 12#32
  let v248 : BitVec 1 := Scalar.cmpi .slt v2 c12_i32_200
  let v249 : BitVec 32 := Scalar.extui v248
  let c0_i32_202 : BitVec 32 := 0#32
  let v250 : BitVec 1 := Scalar.cmpi .ne v249 c0_i32_202
  v250

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_203 : BitVec 32 := 13#32
  let v251 : BitVec 1 := Scalar.cmpi .slt v2 c13_i32_203
  let v252 : BitVec 32 := Scalar.extui v251
  let c0_i32_205 : BitVec 32 := 0#32
  let v253 : BitVec 1 := Scalar.cmpi .ne v252 c0_i32_205
  v253

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_206 : BitVec 32 := 14#32
  let v254 : BitVec 1 := Scalar.cmpi .slt v2 c14_i32_206
  let v255 : BitVec 32 := Scalar.extui v254
  let c0_i32_208 : BitVec 32 := 0#32
  let v256 : BitVec 1 := Scalar.cmpi .ne v255 c0_i32_208
  v256

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_209 : BitVec 32 := 15#32
  let v257 : BitVec 1 := Scalar.cmpi .slt v2 c15_i32_209
  let v258 : BitVec 32 := Scalar.extui v257
  let c0_i32_211 : BitVec 32 := 0#32
  let v259 : BitVec 1 := Scalar.cmpi .ne v258 c0_i32_211
  v259

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_214 : BitVec 32 := 0#32
  let c0_i32_215 : BitVec 32 := 0#32
  ![v2.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S_, .f32⟩
  | .hbm, ⟨2, _⟩ => ⟨S_, .f32⟩
  | .hbm, ⟨3, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.KernelIdeal.Cells.lean ====
/-
  The semaphore cells of the distributed prefix sum, and who pays what into them.

  Device `c` sends its column totals to every later device. Before any device copies, all sixteen devices meet on the
  barrier semaphore: each signals every device's cell, and waits for sixteen units on its own. The signal of a later
  device `d` to `c` hands `c` the slot of `d`'s receive buffer that `c` writes to.

  Every cell lives one round. The barrier cell of a device has sixteen duties of one unit. The send cell `(c, j)`, for
  `c < j`, has one duty, named `j`, whose payload is the share of the totals the copy reads. The receive cell `(c, j)`, for
  `j < c`, has one duty, named `j`, whose payload is slot `j` of `c` holding the totals of `j`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.Tactic

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the scan's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Buffers, slots and semaphores -/

abbrev xM : Memref sig .tc .vmem S1024x512 .f32 := Memref.whole cc0_stg0_0
abbrev oM : Memref sig .tc .vmem S1024x512 .f32 := Memref.whole cc0_stg1_0
abbrev tM : Memref sig .tc .vmem S1x512 .f32 := Memref.whole cc0_scratch0
abbrev aM : Memref sig .tc .vmem S1x512 .f32 := Memref.whole cc0_scratch1
abbrev bM : Memref sig .tc .vmem S16x1x512 .f32 := Memref.whole cc0_scratch2

/-- Where slot `j` of the receive buffer lies, and where entry `j` of a semaphore array does. -/
def offS (j : Dev nD) : Fin 3 → Nat := ![j.val, 0, 0]
def offQ (j : Dev nD) : Fin 1 → Nat := ![j.val]
theorem offS_inb (j : Dev nD) : ∀ a, offS j a + S1x1x512.size a ≤ S16x1x512.size a := by revert j; decide
theorem offQ_inb (j : Dev nD) : ∀ a, offQ j a + S1.size a ≤ S16.size a := by revert j; decide

/-- The row of the receive buffer at an offset, as the copies name it. -/
abbrev slotAt (off : Fin 3 → Nat) (h : ∀ a, off a + S1x1x512.size a ≤ S16x1x512.size a) : Memref sig .tc .vmem S1x512 .f32 :=
  (bM.slice (Rect.unit (s := S16x1x512) off S1x1x512.size h) (fun _ => rfl)).squeeze S1x512 squeezes_S1x1x512_S1x512
abbrev slot (j : Dev nD) : Memref sig .tc .vmem S1x512 .f32 := slotAt (offS j) (offS_inb j)

/-- The entry of a semaphore array at an offset. -/
abbrev semAt (A : DmaSems sig S16) (off : Fin 1 → Nat) (h : ∀ a, off a + S1.size a ≤ S16.size a) : DmaSem sig :=
  ((A.slice (Rect.unit (s := S16) off S1.size h)).squeeze S_ squeezes_S1_S_).sem
abbrev sendS (j : Dev nD) : DmaSem sig := semAt cc0_scratch3 (offQ j) (offQ_inb j)
abbrev recvS (j : Dev nD) : DmaSem sig := semAt cc0_scratch4 (offQ j) (offQ_inb j)
abbrev barS : Sem sig := (SemArray.scalar (sig.barrier 0 rfl) : Sems sig S_).sem

abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))

theorem sendS_inj : ∀ j j' : Dev nD, sendS j = sendS j' → j = j' := by decide
theorem recvS_inj : ∀ j j' : Dev nD, recvS j = recvS j' → j = j' := by decide
theorem sendS_ne_recvS : ∀ j j' : Dev nD, sendS j ≠ recvS j' := by decide

theorem send_eq_iff (j j' : Dev nD) : (SemLoc.dma (sendS j) : SemLoc sig) = .dma (sendS j') ↔ j = j' :=
  ⟨fun h => sendS_inj j j' (SemLoc.dma.inj h), fun h => by rw [h]⟩
theorem recv_eq_iff (j j' : Dev nD) : (SemLoc.dma (recvS j) : SemLoc sig) = .dma (recvS j') ↔ j = j' :=
  ⟨fun h => recvS_inj j j' (SemLoc.dma.inj h), fun h => by rw [h]⟩
theorem send_ne_recv (j j' : Dev nD) : (SemLoc.dma (sendS j) : SemLoc sig) ≠ .dma (recvS j') :=
  fun h => sendS_ne_recvS j j' (SemLoc.dma.inj h)
theorem recv_ne_send (j j' : Dev nD) : (SemLoc.dma (recvS j) : SemLoc sig) ≠ .dma (sendS j') :=
  fun h => send_ne_recv j' j h.symm
theorem send_ne_bar (j : Dev nD) : (SemLoc.dma (sendS j) : SemLoc sig) ≠ .reg barS := fun h => by cases h
theorem recv_ne_bar (j : Dev nD) : (SemLoc.dma (recvS j) : SemLoc sig) ≠ .reg barS := fun h => by cases h

/-- The units one copy of a row of totals carries. -/
abbrev N : ℕ := tM.view.dmaCredit
theorem N_pos : 0 < N := View.dmaCredit_pos _ (by decide)
theorem slot_credit (j : Dev nD) : (slot j).view.dmaCredit = N := rfl

/-! ## Contents -/

/-- Device `c`'s block of the argument, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Its column totals. -/
def tot (c : Dev nD) : (cc0_scratch0 : Ref sig .tc).ty.Contents (Elt F) := k0_pay1 (xstg m ρ c)

/-- A row of totals added onto the accumulator. -/
def accUp (a t : Vec F S1x512 .f32) : FVec F S1x512 .f32 :=
  shapeCast S1x512 (addf a t) shapeCasts_S1x512_S1x512

/-- The accumulator on device `c` once the first `k` devices have been seen. -/
def accV (c : Dev nD) : ℕ → (cc0_scratch1 : Ref sig .tc).ty.Contents (Elt F)
  | 0 => k0_pay26
  | k + 1 => if h : k < c.val then accUp (accV c k) (tot m ρ ⟨k, h.trans c.isLt⟩) else accV c k

theorem accV_take {c j : Dev nD} (h : j < c) : accV m ρ c (j.val + 1) = accUp (accV m ρ c j.val) (tot m ρ j) := by
  rw [accV, dif_pos (show j.val < c.val from h)]
theorem accV_skip {c j : Dev nD} (h : ¬ j < c) : accV m ρ c (j.val + 1) = accV m ρ c j.val := by
  rw [accV, dif_neg (show ¬ j.val < c.val from h)]

/-! ## What is held of the buffers -/

def slotPts (c j : Dev nD) (f : Buf (Elt F) ((slot j).view.loc (c : Thread nD τ))) : sProp 𝕄 :=
  (slot j).view.loc (c : Thread nD τ) ↦[(slot j).view.set]{fullShare} f
/-- The share of the totals that the copy to device `j` reads. -/
abbrev leafOf (j : Dev nD) : PosShare TreeShare := ShareLeaves.leaf 4 fullShare j
def totPts (c : Dev nD) (q : PosShare TreeShare) : sProp 𝕄 :=
  tM.view.loc (c : Thread nD τ) ↦[tM.view.set]{q} tot m ρ c

omit [FloatOps F] in
instance slotPts_storable (c j : Dev nD) (f) : BI.Storable (upEmb : UEmb _ 𝕄) (slotPts (F := F) c j f) := by unfold slotPts; infer_instance
instance totPts_storable (c : Dev nD) (q) : BI.Storable (upEmb : UEmb _ 𝕄) (totPts (F := F) m ρ c q) := by unfold totPts; infer_instance

/-- Slot `j` of device `c` holding the totals of `j`. -/
def landedPts (c j : Dev nD) : sProp 𝕄 :=
  iprop(∃ f, ⌜(slot j).view.read (Elt F) f = tot m ρ j⌝ ∗ slotPts c j f)

/-- What device `d`'s signal hands `c`: the slot of `d` that `c` writes, if `d` is later. -/
def barPay (c d : Dev nD) : sProp 𝕄 := if c < d then iprop(∃ f, slotPts d c f) else iprop(emp)

omit [FloatOps F] in
instance barPay_storable (c d : Dev nD) : BI.Storable (upEmb : UEmb _ 𝕄) (barPay (F := F) c d) := by unfold barPay; split <;> infer_instance
instance landedPts_storable (c j : Dev nD) : BI.Storable (upEmb : UEmb _ 𝕄) (landedPts (F := F) m ρ c j) := by unfold landedPts; infer_instance

/-! ## The schedule -/

/-- Device `j`'s copy duty at a cell: the send cell of an earlier device towards `j`, or a later device's receive cell
    from `j`. -/
abbrev IsCopy (g : GSem nD τ sig) (j : Dev nD) : Prop :=
  (g.1.1 < j ∧ g.2 = .dma (sendS j)) ∨ (j < g.1.1 ∧ g.2 = .dma (recvS j))

def scanRd : Rounds.Schedule (GSem nD τ sig) (Dev nD) 𝕄 where
  duties g r := if r = 0 then (if g.2 = .reg barS then Finset.univ else Finset.univ.filter (IsCopy g)) else ∅
  unitless _ := False
  amount g _ _ := if g.2 = .reg barS then 1 else N
  payload g _ d :=
    if g.2 = .reg barS then barPay g.1.1 d
    else if g.2 = .dma (recvS d) then landedPts m ρ g.1.1 d
    else if g.2 = .dma (sendS d) then totPts m ρ g.1.1 (leafOf d)
    else iprop(emp)
  amount_pos g _ _ _ := by
    by_cases h : g.2 = .reg barS
    · rw [if_pos h]; exact Nat.one_pos
    · rw [if_neg h]; exact N_pos

instance scanRd_payload_storable (g : GSem nD τ sig) (r : ℕ) (d : Dev nD) :
    BI.Storable (upEmb : UEmb _ 𝕄) ((scanRd (F := F) m ρ).payload g r d) := by
  show BI.Storable upEmb (if g.2 = .reg barS then barPay g.1.1 d
    else if g.2 = .dma (recvS d) then landedPts m ρ g.1.1 d
    else if g.2 = .dma (sendS d) then totPts m ρ g.1.1 (leafOf d) else iprop(emp))
  (repeat' split) <;> infer_instance

section Sched
variable (c j d : Dev nD)

theorem duties_bar : (scanRd (F := F) m ρ).duties (barCell c) 0 = Finset.univ := by
  dsimp only [scanRd]; rw [if_pos rfl, if_pos rfl]
theorem duties_send : (scanRd (F := F) m ρ).duties (sendCell c j) 0 = if c < j then {j} else ∅ := by
  dsimp only [scanRd]; rw [if_pos rfl, if_neg (send_ne_bar j)]
  ext d
  rw [Finset.mem_filter]
  by_cases h : c < j
  · rw [if_pos h, Finset.mem_singleton]
    exact ⟨fun hd => hd.2.elim (fun e => ((send_eq_iff j d).mp e.2).symm) (fun e => absurd e.2 (send_ne_recv j d)),
      fun hd => by subst hd; exact ⟨Finset.mem_univ _, .inl ⟨h, rfl⟩⟩⟩
  · rw [if_neg h]
    exact ⟨fun hd => hd.2.elim (fun e => absurd ((send_eq_iff j d).mp e.2 ▸ e.1) h) (fun e => absurd e.2 (send_ne_recv j d)),
      fun hd => absurd hd (Finset.notMem_empty _)⟩
theorem duties_recv : (scanRd (F := F) m ρ).duties (recvCell c j) 0 = if j < c then {j} else ∅ := by
  dsimp only [scanRd]; rw [if_pos rfl, if_neg (recv_ne_bar j)]
  ext d
  rw [Finset.mem_filter]
  by_cases h : j < c
  · rw [if_pos h, Finset.mem_singleton]
    exact ⟨fun hd => hd.2.elim (fun e => absurd e.2 (recv_ne_send j d)) (fun e => ((recv_eq_iff j d).mp e.2).symm),
      fun hd => by subst hd; exact ⟨Finset.mem_univ _, .inr ⟨h, rfl⟩⟩⟩
  · rw [if_neg h]
    exact ⟨fun hd => hd.2.elim (fun e => absurd e.2 (recv_ne_send j d)) (fun e => absurd ((recv_eq_iff j d).mp e.2 ▸ e.1) h),
      fun hd => absurd hd (Finset.notMem_empty _)⟩
theorem duties_later (g : GSem nD τ sig) : ∀ r, 1 ≤ r → (scanRd (F := F) m ρ).duties g r = ∅ :=
  fun r hr => by dsimp only [scanRd]; rw [if_neg (by omega)]

theorem amount_bar : (scanRd (F := F) m ρ).amount (barCell c) 0 d = 1 := by dsimp only [scanRd]; exact if_pos rfl
theorem amount_send : (scanRd (F := F) m ρ).amount (sendCell c j) 0 d = N := by dsimp only [scanRd]; exact if_neg (send_ne_bar j)
theorem amount_recv : (scanRd (F := F) m ρ).amount (recvCell c j) 0 d = N := by dsimp only [scanRd]; exact if_neg (recv_ne_bar j)

theorem expect_bar : (scanRd (F := F) m ρ).expect (barCell c) 0 = 16 := by
  unfold Schedule.expect Schedule.amountOf
  rw [duties_bar, Finset.sum_congr rfl fun d _ => amount_bar m ρ c d, Finset.sum_const, Finset.card_univ, Fintype.card_fin, smul_eq_mul]; rfl
theorem expect_send (h : c < j) : (scanRd (F := F) m ρ).expect (sendCell c j) 0 = N := by
  unfold Schedule.expect Schedule.amountOf; rw [duties_send, if_pos h, Finset.sum_singleton, amount_send]
theorem expect_recv (h : j < c) : (scanRd (F := F) m ρ).expect (recvCell c j) 0 = N := by
  unfold Schedule.expect Schedule.amountOf; rw [duties_recv, if_pos h, Finset.sum_singleton, amount_recv]

theorem payload_bar : (scanRd (F := F) m ρ).payload (barCell c) 0 d = barPay c d := by dsimp only [scanRd]; rw [if_pos rfl]
theorem payload_send : (scanRd (F := F) m ρ).payload (sendCell c j) 0 j = totPts m ρ c (leafOf j) := by
  dsimp only [scanRd]; rw [if_neg (send_ne_bar j), if_neg (send_ne_recv j j), if_pos rfl]
theorem payload_recv : (scanRd (F := F) m ρ).payload (recvCell c j) 0 j = landedPts m ρ c j := by
  dsimp only [scanRd]; rw [if_neg (recv_ne_bar j), if_pos rfl]

theorem rest_bar : bigSep ((scanRd (F := F) m ρ).duties (barCell c) 0 \ ∅) (fun d => (scanRd (F := F) m ρ).payload (barCell c) 0 d)
    = bigSep Finset.univ (barPay c) := by
  rw [Finset.sdiff_empty, duties_bar]; exact bigSep_congr fun d _ => payload_bar m ρ c d
theorem rest_send (h : c < j) : bigSep ((scanRd (F := F) m ρ).duties (sendCell c j) 0 \ ∅) (fun d => (scanRd (F := F) m ρ).payload (sendCell c j) 0 d)
    = totPts m ρ c (leafOf j) := by
  rw [Finset.sdiff_empty, duties_send, if_pos h, bigSep_singleton, payload_send]
theorem rest_recv (h : j < c) : bigSep ((scanRd (F := F) m ρ).duties (recvCell c j) 0 \ ∅) (fun d => (scanRd (F := F) m ρ).payload (recvCell c j) 0 d)
    = landedPts m ρ c j := by
  rw [Finset.sdiff_empty, duties_recv, if_pos h, bigSep_singleton, payload_recv]

end Sched

/-! ## The indices still to come, and those already gone by -/

section Steps
variable (P : Dev nD → Prop) [DecidablePred P]

/-- The devices with `P` from number `k` on, and those before it. -/
def todo (k : ℕ) : Finset (Dev nD) := Finset.univ.filter fun j => P j ∧ k ≤ j.val
def past (k : ℕ) : Finset (Dev nD) := Finset.univ.filter fun j => P j ∧ j.val < k

variable {P}
theorem todo_notMem (j : Dev nD) : j ∉ todo P (j.val + 1) := by
  unfold todo; rw [Finset.mem_filter]; rintro ⟨-, -, h⟩; omega
theorem past_notMem (j : Dev nD) : j ∉ past P j.val := by
  unfold past; rw [Finset.mem_filter]; rintro ⟨-, -, h⟩; omega
theorem todo_take {j : Dev nD} (h : P j) : todo P j.val = insert j (todo P (j.val + 1)) := by
  unfold todo; ext i
  rw [Finset.mem_insert, Finset.mem_filter, Finset.mem_filter]
  constructor
  · rintro ⟨-, hp, hi⟩
    by_cases e : i = j
    · exact .inl e
    · exact .inr ⟨Finset.mem_univ _, hp, by have : i.val ≠ j.val := fun e' => e (Fin.ext e'); omega⟩
  · rintro (rfl | ⟨-, hp, hi⟩)
    · exact ⟨Finset.mem_univ _, h, le_rfl⟩
    · exact ⟨Finset.mem_univ _, hp, by omega⟩
theorem todo_skip {j : Dev nD} (h : ¬ P j) : todo P j.val = todo P (j.val + 1) := by
  unfold todo; ext i
  rw [Finset.mem_filter, Finset.mem_filter]
  constructor
  · rintro ⟨-, hp, hi⟩
    exact ⟨Finset.mem_univ _, hp, by have : i.val ≠ j.val := fun e' => h (Fin.ext e' ▸ hp); omega⟩
  · rintro ⟨-, hp, hi⟩; exact ⟨Finset.mem_univ _, hp, by omega⟩
theorem past_take {j : Dev nD} (h : P j) : past P (j.val + 1) = insert j (past P j.val) := by
  unfold past; ext i
  rw [Finset.mem_insert, Finset.mem_filter, Finset.mem_filter]
  constructor
  · rintro ⟨-, hp, hi⟩
    by_cases e : i = j
    · exact .inl e
    · exact .inr ⟨Finset.mem_univ _, hp, by have : i.val ≠ j.val := fun e' => e (Fin.ext e'); omega⟩
  · rintro (rfl | ⟨-, hp, hi⟩)
    · exact ⟨Finset.mem_univ _, h, by omega⟩
    · exact ⟨Finset.mem_univ _, hp, by omega⟩
theorem past_skip {j : Dev nD} (h : ¬ P j) : past P (j.val + 1) = past P j.val := by
  unfold past; ext i
  rw [Finset.mem_filter, Finset.mem_filter]
  constructor
  · rintro ⟨-, hp, hi⟩
    exact ⟨Finset.mem_univ _, hp, by have : i.val ≠ j.val := fun e' => h (Fin.ext e' ▸ hp); omega⟩
  · rintro ⟨-, hp, hi⟩; exact ⟨Finset.mem_univ _, hp, by omega⟩
theorem todo_zero : todo P 0 = Finset.univ.filter P := Finset.filter_congr fun j _ => and_iff_left (Nat.zero_le _)
theorem todo_end : todo P 16 = ∅ :=
  Finset.filter_eq_empty_iff.mpr fun j _ h => by have : j.val < 16 := j.isLt; omega
theorem past_zero : past P 0 = ∅ := Finset.filter_eq_empty_iff.mpr fun j _ h => by omega
theorem past_end : past P 16 = Finset.univ.filter P := Finset.filter_congr fun j _ => and_iff_left j.isLt

end Steps

/-! ## What each device owes at launch, and the levels -/

/-- The copies device `c` still owes from device `k` on. -/
def owedCopies (c : Dev nD) (k : ℕ) : CellTallies nD τ sig Unit := ∑ j ∈ todo (c < ·) k, tallyAt (recvCell j c) () N
/-- The signals it still owes from device `k` on. -/
def owedSignals (k : ℕ) : CellTallies nD τ sig Unit := ∑ d ∈ todo (fun _ => True) k, tallyAt (barCell d) () 1
def O₀ (c : Dev nD) : CellTallies nD τ sig Unit := owedCopies c 0 + owedSignals 0

def L (g : GSem nD τ sig) : Finset Unit := if g.1.2 = .tc then {()} else ∅
/-- Barrier cells at 1, receive cells at 2, everything else at 0. -/
def lv (g : GSem nD τ sig) (_ : Unit) : ℕ := if g.2 = .reg barS then 1 else if ∃ j, g.2 = .dma (recvS j) then 2 else 0

theorem L_of_ne (g : GSem nD τ sig) (h : g.1.2 ≠ .tc) : L g = ∅ := if_neg h
theorem L_tc (c : Dev nD) (sm : SemLoc sig) : L ((c : Thread nD τ), sm) = {()} := if_pos rfl

theorem tallies_sum_apply {I : Type} (s : Finset I) (f : I → CellTallies nD τ sig Unit) (g : GSem nD τ sig) (u : Unit) :
    (∑ i ∈ s, f i) g u = ∑ i ∈ s, f i g u := by
  classical
  induction s using Finset.induction_on with
  | empty => simp
  | insert a s ha ih => rw [Finset.sum_insert ha, Finset.sum_insert ha, Pi.add_apply, Finsupp.add_apply, ih]

theorem owedCopies_pos {c : Dev nD} {k : ℕ} {g : GSem nD τ sig} {u : Unit} (h : 0 < owedCopies c k g u) : ∃ j, g = recvCell j c := by
  unfold owedCopies at h
  rw [tallies_sum_apply] at h
  obtain ⟨j, -, hj⟩ := Finset.exists_ne_zero_of_sum_ne_zero (Nat.pos_iff_ne_zero.mp h)
  rw [tallyAt_apply] at hj
  exact ⟨j, by by_contra hn; exact hj (if_neg fun e => hn e.1)⟩
theorem owedSignals_pos {k : ℕ} {g : GSem nD τ sig} {u : Unit} (h : 0 < owedSignals k g u) : ∃ d, g = barCell d := by
  unfold owedSignals at h
  rw [tallies_sum_apply] at h
  obtain ⟨j, -, hj⟩ := Finset.exists_ne_zero_of_sum_ne_zero (Nat.pos_iff_ne_zero.mp h)
  rw [tallyAt_apply] at hj
  exact ⟨j, by by_contra hn; exact hj (if_neg fun e => hn e.1)⟩
theorem O₀_pos {c : Dev nD} {g : GSem nD τ sig} {u : Unit} (h : 0 < O₀ c g u) : (∃ j, g = recvCell j c) ∨ ∃ d, g = barCell d := by
  unfold O₀ at h
  rw [Pi.add_apply, Finsupp.add_apply] at h
  rcases Nat.eq_zero_or_pos (owedCopies c 0 g u) with h0 | h0
  · rw [h0, Nat.zero_add] at h; exact .inr (owedSignals_pos h)
  · exact .inl (owedCopies_pos h0)

theorem lv_bar (c : Dev nD) (u : Unit) : lv (barCell c) u = 1 := if_pos rfl
theorem lv_recv (c j : Dev nD) (u : Unit) : lv (recvCell c j) u = 2 := by
  unfold lv; rw [if_neg (recv_ne_bar j), if_pos ⟨j, rfl⟩]

omit [FloatOps F] in
theorem mayWait_stage (c : Dev nD) (q : DmaSem sig) (hq : ∀ j, q ≠ recvS j) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨d, rfl⟩ <;> exact Finset.mem_singleton_self _)
      (fun p hp => by
        rw [Finset.mem_singleton.mp hp]; dsimp only [lv]
        rw [if_neg (fun h => by cases h), if_neg (fun ⟨j, h⟩ => hq j (SemLoc.dma.inj h))])
      (fun g u hg => by
        rcases O₀_pos hg with ⟨j, rfl⟩ | ⟨d, rfl⟩
        · rw [lv_recv]; decide
        · rw [lv_bar]; decide)
  · rw [MayWait_zero]; iintro -; iempintro

omit [FloatOps F] in
/-- At its barrier wait a device owes copies only: receive cells, above its barrier cell. -/
theorem mayWait_bar (c : Dev nD) (k : ℕ) :
    (levAts L lv : sProp 𝕄) ⊢ MayWait (c : Thread nD τ) (.reg barS) () (owedCopies c k) :=
  MayOwe.of_cut (L := L) (lev := lv) 1 (fun p hp => by rw [Finset.mem_singleton.mp hp, L_tc]; exact Finset.mem_singleton_self _)
    (fun g u hg => by obtain ⟨j, rfl⟩ := owedCopies_pos hg; exact Finset.mem_singleton_self _)
    (fun p hp => by rw [Finset.mem_singleton.mp hp]; exact le_of_eq (lv_bar c ()))
    (fun g u hg => by obtain ⟨j, rfl⟩ := owedCopies_pos hg; rw [lv_recv]; decide)

/-! ## All the cells, indexed -/

/-- A device's cells: the barrier's, the sixteen send cells and the sixteen receive cells. -/
abbrev CK : Type := Unit ⊕ (Dev nD ⊕ Dev nD)
abbrev ckSem : CK → SemLoc sig
  | .inl _ => .reg barS
  | .inr (.inl j) => .dma (sendS j)
  | .inr (.inr j) => .dma (recvS j)
abbrev kcell (ck : Dev nD × CK) : GSem nD τ sig := ((ck.1 : Thread nD τ), ckSem ck.2)

theorem ckSem_inj : Function.Injective ckSem := by
  rintro (u | j | j) (u' | j' | j') h
  · rfl
  · exact absurd h.symm (send_ne_bar j')
  · exact absurd h.symm (recv_ne_bar j')
  · exact absurd h (send_ne_bar j)
  · rw [(send_eq_iff j j').mp h]
  · exact absurd h (send_ne_recv j j')
  · exact absurd h (recv_ne_bar j)
  · exact absurd h (recv_ne_send j j')
  · rw [(recv_eq_iff j j').mp h]

theorem kcell_injective : Function.Injective kcell := by
  rintro ⟨c, k⟩ ⟨c', k'⟩ h
  have h1 : c = c' := congrArg (fun g : GSem nD τ sig => g.1.1) h
  have h2 : k = k' := ckSem_inj (congrArg Prod.snd h)
  rw [h1, h2]

/-- What every device knows all along: every cell's invariant, and that every cell has reached round 0. -/
def records (K : Dev nD × CK → ℕ) : sProp 𝕄 :=
  iprop((bigSep Finset.univ fun ck : Dev nD × CK => cellInv ER (scanRd m ρ) (K ck) (kcell ck))
    ∗ bigSep Finset.univ fun ck : Dev nD × CK => reached ER (kcell ck) 0)

instance records_persistent (K : Dev nD × CK → ℕ) : BI.Persistent (records m ρ K) := by unfold records; infer_instance

theorem member {I : Type} [Fintype I] [DecidableEq I] (Φ : I → sProp 𝕄) (i : I) : (bigSep Finset.univ Φ : sProp 𝕄) ⊢ Φ i :=
  bigSep_elim (Finset.mem_univ i)

theorem bigSep_take {I : Type} [DecidableEq I] (Φ : I → sProp 𝕄) {s : Finset I} {i : I} (h : i ∉ s) :
    (bigSep (insert i s) Φ : sProp 𝕄) = iprop(Φ i ∗ bigSep s Φ) := bigSep_insert h

theorem records_inv (K : Dev nD × CK → ℕ) (ck : Dev nD × CK) : records m ρ K ⊢ cellInv ER (scanRd m ρ) (K ck) (kcell ck) := by
  unfold records; iintro ⟨H, -⟩; iapply (member (fun ck => cellInv ER (scanRd m ρ) (K ck) (kcell ck)) ck); iexact H
theorem records_reached (K : Dev nD × CK → ℕ) (ck : Dev nD × CK) : records m ρ K ⊢ reached ER (kcell ck) 0 := by
  unfold records; iintro ⟨-, H⟩; iapply (member (fun ck => (reached ER (kcell ck) 0 : sProp 𝕄)) ck); iexact H

end Cert.KernelIdeal.Scan

end
-- ==== Proof.KernelIdeal.Program.lean ====
/-
  The kernel's body as loops.

  The body is printed unrolled, in nine parts: sixteen signals, one wait, the column totals, sixteen guarded copies, eight
  blocks of local prefix sums, sixteen guarded waits each adding a row of totals, the final addition, sixteen guarded
  waits for the copies sent. Here each group is one operation iterated, and each printed part is such an iteration.
-/
module

public import proofs.«01_k».proof.Proof.KernelIdeal.Cells

@[expose] public section

noncomputable section

namespace Cert.KernelIdeal.Scan

open Cert.KernelIdeal Cert.KernelIdeal.Gen

open Idealize.ShloMosaic
open Idealize.ShloMosaic.TcCoe
open Idealize.SL Idealize.SL.Sem

variable {F : FTy → Type} [FloatOps F]

abbrev Pr (F : FTy → Type) [FloatOps F] : Type → Type 1 := Prog (TpuEff nD τ sig (Elt F) Λ₀ .tc)

/-! ## The conditions and the offsets the program computes -/

/-- The device's number as the program computes it, and its comparisons with `j`. -/
def wd (c : Dev nD) : BitVec 32 := Scalar.remsi (Scalar.divsi (Dev.word c) 1#32) 16#32
def ltW (c j : Dev nD) : BitVec 1 :=
  Scalar.cmpi .ne (Scalar.extui (Scalar.cmpi .slt (wd c) (BitVec.ofNat 32 j.val)) : BitVec 32) 0#32
def gtW (c j : Dev nD) : BitVec 1 :=
  Scalar.cmpi .ne (Scalar.extui (Scalar.cmpi .sgt (wd c) (BitVec.ofNat 32 j.val)) : BitVec 32) 0#32

theorem ltW_iff : ∀ c j : Dev nD, ltW c j = 1#1 ↔ c < j := by decide +kernel
theorem gtW_iff : ∀ c j : Dev nD, gtW c j = 1#1 ↔ j < c := by decide +kernel

def offS' (c : Dev nD) : Fin 3 → Nat := ![(wd c).toNat, 0, 0]
def offQ' (c : Dev nD) : Fin 1 → Nat := ![(wd c).toNat]
theorem wd_toNat : ∀ c : Dev nD, (wd c).toNat = c.val := by decide
theorem offS'_eq (c : Dev nD) : offS' c = offS c := by unfold offS' offS; rw [wd_toNat]
theorem offQ'_eq (c : Dev nD) : offQ' c = offQ c := by unfold offQ' offQ; rw [wd_toNat]
theorem offS'_inb (c : Dev nD) : ∀ a, offS' c a + S1x1x512.size a ≤ S16x1x512.size a := by rw [offS'_eq]; exact offS_inb c
theorem offQ'_inb (c : Dev nD) : ∀ a, offQ' c a + S1.size a ≤ S16.size a := by rw [offQ'_eq]; exact offQ_inb c

/-! ## Rectangles -/

abbrev rX : Rect S1024x512 := Rect.unit (s := S1024x512) ![0, 0] S1024x512.size inb_S1024x512_S1024x512_0_0
abbrev rT : Rect S1x512 := Rect.unit (s := S1x512) ![0, 0] S1x512.size inb_S1x512_S1x512_0_0
abbrev rS (j : Dev nD) : Rect S16x1x512 := Rect.unit (s := S16x1x512) (offS j) S1x1x512.size (offS_inb j)
/-- Block `b` of 128 rows. -/
def offB (b : Fin 8) : Fin 2 → Nat := ![128 * b.val, 0]
theorem offB_inb (b : Fin 8) : ∀ a, offB b a + S128x512.size a ≤ S1024x512.size a := by revert b; decide
theorem offB_slices (b : Fin 8) : S1024x512.Slices (offB b) S128x512 := by revert b; decide
abbrev rB (b : Fin 8) : Rect S1024x512 := Rect.unit (s := S1024x512) (offB b) S128x512.size (offB_inb b)

/-! ## The local prefix sums -/

/-- Block `b` under the triangular product; what is carried into block `b`; the block as stored. -/
def triB (x : Vec F S1024x512 .f32) (b : Fin 8) : FVec F S128x512 .f32 :=
  matmul dot_S128x128_S128x512_S128x512_1_0_0_1_n_n none (k0_pay2 (F := F))
    (extractStridedSlice S128x512 (offB b) (k0_pay3 x) (offB_slices b)) (constant S128x512 .f32 0x00000000#32)
def carry (x : Vec F S1024x512 .f32) : (b : ℕ) → b < 8 → FVec F S1x512 .f32
  | 0, _ => k0_pay4
  | b + 1, h => addf (carry x b (by omega))
      (extractStridedSlice S1x512 ![127, 0] (triB x ⟨b, by omega⟩) slices_S128x512_o127_0_S1x512)
def blockV (x : Vec F S1024x512 .f32) (b : Fin 8) : FVec F S128x512 .f32 :=
  addf (triB x b) (broadcastTo S128x512 (carry x b.val b.isLt) broadcasts_S1x512_S128x512)

/-! ## The operations -/

section Ops
variable {α : Type}

/-- `step` at `k`, …, `k + n - 1`, then `rest`. -/
def loop {M : ℕ} (step : Fin M → Pr F α → Pr F α) (rest : Pr F α) : (n k : ℕ) → k + n ≤ M → Pr F α
  | 0, _, _ => rest
  | n + 1, k, h => step ⟨k, by omega⟩ (loop step rest n (k + 1) (by omega))

def signalStep (d : Dev nD) (rest : Pr F α) : Pr F α := semSignalWord d barS 1#32 >>= fun _ => rest

def sendStep (c j : Dev nD) (rest : Pr F α) : Pr F α :=
  if h : ltW c j = 1#1 then
    (Prog.lift (.enqueueDma tM (.remote (Dev.tc j) (slotAt (offS' c) (offS'_inb c)) (.dma (sendS j)))
      (.dma (semAt cc0_scratch4 (offQ' c) (offQ'_inb c)))
      (Memref.isWhole_whole cc0_scratch0).wordExact ((View.wordExact_bits rfl).reshape _ _) ⟨⟨rfl, Or.inl rfl⟩, trivial⟩) : Pr F PUnit) >>= fun _ => rest
  else rest

def blockStep (x : Vec F S1024x512 .f32) (b : Fin 8) (rest : Pr F α) : Pr F α :=
  (Prog.lift (.load oM (rB b).toLoadRect (View.loadsAt_vmem h_S128x512)) : Pr F _) >>= fun _ =>
  (Prog.lift (.store oM (rB b) (blockV x b) Finset.univ (View.stores_vmem_bits_univ h_S128x512 rfl) (.inl rfl)) : Pr F PUnit) >>= fun _ => rest

def recvStep (c j : Dev nD) (rest : Pr F α) : Pr F α :=
  if h : gtW c j = 1#1 then
    (Prog.lift (.waitDma2 (recvS j) tM (slot j) (Memref.isWhole_whole cc0_scratch0).wordExact ((View.wordExact_bits rfl).reshape _ _)) : Pr F PUnit) >>= fun _ =>
    (Prog.lift (.load aM rT.toLoadRect (View.loadsAt_vmem h_S1x512)) : Pr F _) >>= fun a =>
    (Prog.lift (.load bM (rS j).toLoadRect (View.loadsAt_vmem h_S1x1x512)) : Pr F _) >>= fun t =>
    (Prog.lift (.load aM rT.toLoadRect (View.loadsAt_vmem h_S1x512)) : Pr F _) >>= fun _ =>
    (Prog.lift (.store aM rT (accUp a (shapeCast S1x512 t shapeCasts_S1x1x512_S1x512)) Finset.univ (View.stores_vmem_bits_univ h_S1x512 rfl) (.inl rfl)) : Pr F PUnit)
      >>= fun _ => rest
  else rest

def drainStep (c j : Dev nD) (rest : Pr F α) : Pr F α :=
  if h : ltW c j = 1#1 then
    (Prog.lift (.waitDma2 (sendS j) (slotAt (offS' c) (offS'_inb c)) tM ((View.wordExact_bits rfl).reshape _ _) (Memref.isWhole_whole cc0_scratch0).wordExact) : Pr F PUnit) >>= fun _ => rest
  else rest

/-- The totals: the block loaded, its column totals stored. -/
def totalsStep (rest : Pr F α) : Pr F α :=
  (Prog.lift (.load xM rX.toLoadRect (View.loadsAt_vmem h_S1024x512)) : Pr F _) >>= fun x =>
  (Prog.lift (.load tM rT.toLoadRect (View.loadsAt_vmem h_S1x512)) : Pr F _) >>= fun _ =>
  (Prog.lift (.store tM rT (k0_pay1 x) Finset.univ (View.stores_vmem_bits_univ h_S1x512 rfl) (.inl rfl)) : Pr F PUnit) >>= fun _ => rest

/-- The accumulator cleared. -/
def clearStep (rest : Pr F α) : Pr F α :=
  (Prog.lift (.load aM rT.toLoadRect (View.loadsAt_vmem h_S1x512)) : Pr F _) >>= fun _ =>
  (Prog.lift (.store aM rT (k0_pay26 (F := F)) Finset.univ (View.stores_vmem_bits_univ h_S1x512 rfl) (.inl rfl)) : Pr F PUnit) >>= fun _ => rest

/-- The accumulator added to every row of the local prefix sums. -/
def finishStep (rest : Pr F α) : Pr F α :=
  (Prog.lift (.load oM rX.toLoadRect (View.loadsAt_vmem h_S1024x512)) : Pr F _) >>= fun o =>
  (Prog.lift (.load aM rT.toLoadRect (View.loadsAt_vmem h_S1x512)) : Pr F _) >>= fun a =>
  (Prog.lift (.load oM rX.toLoadRect (View.loadsAt_vmem h_S1024x512)) : Pr F _) >>= fun _ =>
  (Prog.lift (.store oM rX (k0_pay43 o a) Finset.univ (View.stores_vmem_bits_univ h_S1024x512 rfl) (.inl rfl)) : Pr F PUnit) >>= fun _ => rest

end Ops

/-! ## The printed parts -/

section Parts

theorem wx : xM.IsWhole := Memref.isWhole_whole cc0_stg0_0
theorem wo : oM.IsWhole := Memref.isWhole_whole cc0_stg1_0
theorem wt : tM.IsWhole := Memref.isWhole_whole cc0_scratch0
theorem wa : aM.IsWhole := Memref.isWhole_whole cc0_scratch1
theorem wb : bM.IsWhole := Memref.isWhole_whole cc0_scratch2

set_option maxRecDepth 65536

theorem part1_eq : k0_part1_skel (F := F) xM wx oM wo tM wt aM wa bM wb cc0_scratch3 cc0_scratch4
    = (Prog.lift .deviceId : Pr F _) >>= fun c => loop signalStep (pure ⟨c, wd c, SemArray.scalar (sig.barrier 0 rfl), Scalar.muli 7#32 1#32⟩) 7 0 (by decide) := rfl
theorem part2_eq (v : BitVec 32) : k0_part2_skel (F := F) xM wx oM wo tM wt aM wa bM wb cc0_scratch3 cc0_scratch4 (SemArray.scalar (sig.barrier 0 rfl)) v
    = loop signalStep (pure ⟨⟩) 9 7 (by decide) := rfl
theorem part3_eq (c : Dev nD) : k0_part3_skel (F := F) xM wx oM wo tM wt aM wa bM wb cc0_scratch3 cc0_scratch4 c (wd c) (SemArray.scalar (sig.barrier 0 rfl))
    = semWaitWord barS 16#32 >>= fun _ => totalsStep (loop (sendStep c) (pure (Scalar.extui (Scalar.cmpi .slt (wd c) 6#32))) 6 0 (by decide)) := rfl
theorem part4_eq (c : Dev nD) (v : BitVec 32) : k0_part4_skel (F := F) xM wx oM wo tM wt aM wa bM wb cc0_scratch3 cc0_scratch4 c (wd c) v
    = loop (sendStep c) (pure ⟨⟩) 9 6 (by decide) := rfl
theorem part5_eq (c : Dev nD) : k0_part5_skel (F := F) xM wx oM wo tM wt aM wa bM wb cc0_scratch3 cc0_scratch4 c (wd c)
    = loop (sendStep c) ((Prog.lift (.load xM rX.toLoadRect (View.loadsAt_vmem h_S1024x512)) : Pr F _) >>= fun x =>
        loop (blockStep x) (pure ⟨k0_pay2 (F := F), k0_pay3 x, k0_pay13 x, k0_pay14 x, k0_pay15 x⟩) 3 0 (by decide)) 1 15 (by decide) := rfl
theorem part6_eq (c : Dev nD) (x : Vec F S1024x512 .f32) : k0_part6_skel (F := F) xM wx oM wo tM wt aM wa bM wb cc0_scratch3 cc0_scratch4 (wd c)
      (k0_pay2 (F := F)) (k0_pay3 x) (k0_pay13 x) (k0_pay14 x) (k0_pay15 x)
    = loop (blockStep x) (clearStep (pure (gtW c 0))) 5 3 (by decide) := rfl
theorem part7_eq (c : Dev nD) : k0_part7_skel (F := F) xM wx oM wo tM wt aM wa bM wb cc0_scratch3 cc0_scratch4 (wd c) (gtW c 0)
    = loop (recvStep c) (pure (gtW c 10)) 10 0 (by decide) := rfl
theorem part8_eq (c : Dev nD) : k0_part8_skel (F := F) xM wx oM wo tM wt aM wa bM wb cc0_scratch3 cc0_scratch4 c (wd c) (gtW c 10)
    = loop (recvStep c) (finishStep (loop (drainStep c) (pure (Scalar.cmpi .slt (wd c) 2#32)) 2 0 (by decide))) 6 10 (by decide) := rfl
theorem part9_eq (c : Dev nD) (v : BitVec 1) : k0_part9_skel (F := F) xM wx oM wo tM wt aM wa bM wb cc0_scratch3 cc0_scratch4 c (wd c) v
    = loop (drainStep c) (pure ⟨⟩) 8 2 (by decide) := rfl

theorem body_eq : cc0_body (F := F) xM wx oM wo tM wt aM wa bM wb cc0_scratch3 cc0_scratch4
    = k0_part1_skel (F := F) xM wx oM wo tM wt aM wa bM wb cc0_scratch3 cc0_scratch4 >>= fun p =>
      k0_part2_skel (F := F) xM wx oM wo tM wt aM wa bM wb cc0_scratch3 cc0_scratch4 p.2.2.1 p.2.2.2 >>= fun _ =>
      k0_part3_skel (F := F) xM wx oM wo tM wt aM wa bM wb cc0_scratch3 cc0_scratch4 p.1 p.2.1 p.2.2.1 >>= fun v =>
      k0_part4_skel (F := F) xM wx oM wo tM wt aM wa bM wb cc0_scratch3 cc0_scratch4 p.1 p.2.1 v >>= fun _ =>
      k0_part5_skel (F := F) xM wx oM wo tM wt aM wa bM wb cc0_scratch3 cc0_scratch4 p.1 p.2.1 >>= fun q =>
      k0_part6_skel (F := F) xM wx oM wo tM wt aM wa bM wb cc0_scratch3 cc0_scratch4 p.2.1 q.1 q.2.1 q.2.2.1 q.2.2.2.1 q.2.2.2.2 >>= fun g =>
      k0_part7_skel (F := F) xM wx oM wo tM wt aM wa bM wb cc0_scratch3 cc0_scratch4 p.2.1 g >>= fun g' =>
      k0_part8_skel (F := F) xM wx oM wo tM wt aM wa bM wb cc0_scratch3 cc0_scratch4 p.1 p.2.1 g' >>= fun g'' =>
      k0_part9_skel (F := F) xM wx oM wo tM wt aM wa bM wb cc0_scratch3 cc0_scratch4 p.1 p.2.1 g'' >>= fun _ =>
      loop (drainStep p.1) (pure ⟨⟩) 6 10 (by decide) := by
  rw [cc0_body_eq_skeleton]; rfl

end Parts

end Cert.KernelIdeal.Scan

end
-- ==== Proof.KernelIdeal.Steps.lean ====
/-
  One rule per operation of the kernel's loops: what device `c` holds before index `j`, and what it holds after.
-/
module

public import proofs.«01_k».proof.Proof.KernelIdeal.Program

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg) (K : Dev nD × CK → ℕ)

abbrev wpB (c : Dev nD) {α : Type} (p : Pr F α) (Q : α → sProp 𝕄) : sProp 𝕄 :=
  wp frame (wpE (defs₀ (F := F)) 𝒱₀ (c : Thread nD τ) none) Set.univ p Q

/-- A loop runs if each of its steps takes the state at an index to the state at the next. -/
theorem loop_run {M : ℕ} {α : Type} (c : Dev nD) (R : sProp 𝕄) [BI.Persistent R] (St : ℕ → sProp 𝕄) (step : Fin M → Pr F α → Pr F α)
    (Q : α → sProp 𝕄)
    (hs : ∀ (j : Fin M) (rest : Pr F α), iprop(R ∗ St j.val) ⊢ iprop((St (j.val + 1) -∗ wpB c rest Q) -∗ wpB c (step j rest) Q))
    (rest : Pr F α) : ∀ (n k : ℕ) (h : k + n ≤ M),
    iprop(R ∗ St k) ⊢ iprop((St (k + n) -∗ wpB c rest Q) -∗ wpB c (loop step rest n k h) Q)
  | 0, k, h => by
    iintro ⟨-, HS⟩ Hk
    unfold loop
    iapply Hk; iexact HS
  | n + 1, k, h => by
    have ih := loop_run c R St step Q hs rest n (k + 1) (by omega)
    rw [show St (k + 1 + n) = St (k + (n + 1)) from congrArg St (by omega)] at ih
    iintro ⟨#HR, HS⟩ Hk
    unfold loop
    iapply (hs ⟨k, _⟩ _) $$ [HS]
    · isplitr; · iexact HR
      iexact HS
    iintro HS
    iapply ih $$ [HS]
    · isplitr; · iexact HR
      iexact HS
    iexact Hk

def owesE (c : Dev nD) (O : CellTallies nD τ sig Unit) : sProp 𝕄 := iprop(∃ W, owes (c : Thread nD τ) O W)

/-! ## The signals -/

def signalSt (c : Dev nD) (k : ℕ) : sProp 𝕄 :=
  iprop(owesE c (owedCopies c 0 + owedSignals k)
    ∗ bigSep (todo (fun _ => True) k) fun d => iprop(dutyTok ER (barCell d) 0 c ∗ barPay d c))

theorem owedSignals_take (d : Dev nD) : owedSignals d.val = owedSignals (d.val + 1) + tallyAt (barCell d) () 1 := by
  unfold owedSignals
  rw [todo_take (P := fun _ => True) trivial, Finset.sum_insert (todo_notMem d), add_comm]

theorem signal_run (c d : Dev nD) {α : Type} (rest : Pr F α) (Q : α → sProp 𝕄) :
    iprop(records m ρ K ∗ signalSt c d.val) ⊢ iprop((signalSt c (d.val + 1) -∗ wpB c rest Q) -∗ wpB c (signalStep d rest) Q) := by
  unfold signalSt owesE signalStep
  rw [todo_take (P := fun _ => True) trivial, bigSep_take _ (todo_notMem d)]
  simp only [semSignalWord, Prog.lift, Prog.bind_op, Prog.bind_ret]
  iintro ⟨#HR, ⟨%W, HO⟩, ⟨Ht, Hp⟩, Hrest⟩ Hk
  iapply (Rounds.wp_signal 𝒱₀ ER (scanRd m ρ) (c : Thread nD τ) none (dst := (d : Thread nD τ)) (κ := K (d, .inl ()))
      (d := c) (by rw [duties_bar]; exact Finset.mem_univ _) ((amount_bar m ρ d c).trans (by decide)) ()
      (owedCopies c 0 + owedSignals (d.val + 1)) ((congrArg (owedCopies c 0 + ·) (owedSignals_take d)).trans (add_assoc _ _ _).symm)) $$ [HO Ht Hp]
  · isplitr; · iapply (records_inv m ρ K (d, .inl ())); iexact HR
    isplitl [HO]; · iexact HO
    isplitl [Ht]; · iexact Ht
    isplitl [Hp]; · rw [payload_bar]; iexact Hp
    iapply (records_reached m ρ K (d, .inl ())); iexact HR
  iintro HO
  iapply Hk
  isplitl [HO]; · iexists W; iexact HO
  iexact Hrest

/-! ## The copies -/

def sendSt (c : Dev nD) (k : ℕ) : sProp 𝕄 :=
  iprop(owesE c (owedCopies c k)
    ∗ (bigSep (todo (c < ·) k) fun j => iprop((dutyTok ER (sendCell c j) 0 j ∗ dutyTok ER (recvCell j c) 0 c)
        ∗ (∃ f, slotPts j c f) ∗ totPts m ρ c (leafOf j)))
    ∗ bigSep (past (c < ·) k) fun j => cred (tallyAt (sendCell c j) () N))

theorem owedCopies_take {c j : Dev nD} (h : c < j) : owedCopies c j.val = owedCopies c (j.val + 1) + tallyAt (recvCell j c) () N := by
  unfold owedCopies
  rw [todo_take (P := (c < ·)) h, Finset.sum_insert (todo_notMem j), add_comm]
theorem owedCopies_skip {c j : Dev nD} (h : ¬ c < j) : owedCopies c j.val = owedCopies c (j.val + 1) := by
  unfold owedCopies; rw [todo_skip (P := (c < ·)) h]

/-- One copy, whatever names the offsets it computes are given. -/
theorem wp_copy (c j : Dev nD) (h : c < j) (o3 : Fin 3 → Nat) (h3) (e3 : o3 = offS c) (o1 : Fin 1 → Nat) (h1) (e1 : o1 = offQ c)
    {hsc : (slotAt o3 h3).view.ref.isScScratch = false}
    {hsrc : tM.view.WordExact} {hdst : (slotAt o3 h3).view.WordExact}
    {hsem : DmaTarget.Typed .vmem (.dma (semAt cc0_scratch4 o1 h1)) (.remote (Dev.tc j : Thread nD τ) (slotAt o3 h3) (.dma (sendS j)) hsc)}
    {α : Type} {Q : α → sProp 𝕄} {k : PUnit → Pr F α} (W : Waits sig Unit) (f) :
    iprop(records m ρ K ∗ owes (c : Thread nD τ) (owedCopies c j.val) W ∗ dutyTok ER (sendCell c j) 0 j ∗ dutyTok ER (recvCell j c) 0 c
        ∗ slotPts j c f ∗ totPts m ρ c (leafOf j))
      ⊢ iprop(((cred (tallyAt (sendCell c j) () N) ∗ owes (c : Thread nD τ) (owedCopies c (j.val + 1)) W) -∗ wpB c (k ⟨⟩) Q)
          -∗ wpB c (.op (.enqueueDma tM (.remote (Dev.tc j : Thread nD τ) (slotAt o3 h3) (.dma (sendS j)) hsc) (.dma (semAt cc0_scratch4 o1 h1)) hsrc hdst hsem) k) Q) := by
  subst e3 e1
  iintro ⟨#HR, HO, Ht1, Ht2, Hs, Ht⟩
  unfold slotPts totPts
  iapply (Rounds.wp_send_pointsTo 𝒱₀ ER (scanRd m ρ) (c : Thread nD τ) none (κ₁ := K (c, .inr (.inl j))) (κ₂ := K (j, .inr (.inr c)))
    (r₁ := 0) (r₂ := 0) (d₁ := j) (d₂ := c) (fd := f)
    (by rw [duties_send, if_pos h]; exact Finset.mem_singleton_self _) (by rw [duties_recv, if_pos h]; exact Finset.mem_singleton_self _)
    () () N rfl (amount_send m ρ c j j) (amount_recv m ρ j c c) (owedCopies c (j.val + 1)) (owedCopies_take h) (W := W)
    (by rw [payload_send]; exact BI.Entails.refl _)
    (by
      rw [payload_recv]; unfold landedPts slotPts
      iintro H
      iexists _
      isplitr [H]
      rotate_left
      · iexact H
      ipureintro
      rw [View.read_write_univ]; rfl))
  isplitr; · iapply (records_inv m ρ K (c, .inr (.inl j))); iexact HR
  isplitr; · iapply (records_inv m ρ K (j, .inr (.inr c))); iexact HR
  isplitl [Ht]; · iexact Ht
  isplitl [Hs]; · iexact Hs
  isplitl [HO]; · iexact HO
  isplitl [Ht1]; · iexact Ht1
  isplitr; · iapply (records_reached m ρ K (c, .inr (.inl j))); iexact HR
  isplitl [Ht2]; · iexact Ht2
  iapply (records_reached m ρ K (j, .inr (.inr c))); iexact HR

theorem send_run (c j : Dev nD) {α : Type} (rest : Pr F α) (Q : α → sProp 𝕄) :
    iprop(records m ρ K ∗ sendSt m ρ c j.val) ⊢ iprop((sendSt m ρ c (j.val + 1) -∗ wpB c rest Q) -∗ wpB c (sendStep c j rest) Q) := by
  unfold sendSt owesE sendStep
  by_cases h : c < j
  · rw [dif_pos ((ltW_iff c j).mpr h), todo_take (P := (c < ·)) h, bigSep_take _ (todo_notMem j), past_take (P := (c < ·)) h, bigSep_take _ (past_notMem j)]
    simp only [Prog.lift, Prog.bind_op, Prog.bind_ret]
    iintro ⟨#HR, ⟨%W, HO⟩, ⟨⟨⟨Ht1, Ht2⟩, ⟨%f, Hs⟩, Ht⟩, Htodo⟩, Hpast⟩ Hk
    iapply (wp_copy m ρ K c j h _ _ (offS'_eq c) _ _ (offQ'_eq c) W f) $$ [HO Ht1 Ht2 Hs Ht]
    · isplitr; · iexact HR
      isplitl [HO]; · iexact HO
      isplitl [Ht1]; · iexact Ht1
      isplitl [Ht2]; · iexact Ht2
      isplitl [Hs] <;> iassumption
    iintro ⟨Hc, HO⟩
    iapply Hk
    isplitl [HO]; · iexists W; iexact HO
    isplitl [Htodo]; · iexact Htodo
    isplitl [Hc] <;> iassumption
  · rw [dif_neg (fun e => h ((ltW_iff c j).mp e)), owedCopies_skip h, todo_skip (P := (c < ·)) h, past_skip (P := (c < ·)) h]
    iintro ⟨-, HS⟩ Hk
    iapply Hk; iexact HS

/-! ## The local blocks -/

/-- The first `k` blocks of the output hold the local prefix sums. -/
def FirstBlocks (x : Vec F S1024x512 .f32) (k : ℕ) (g : Vec F S1024x512 .f32) : Prop :=
  ∀ b : Fin 8, b.val < k → oM.view.readAt (Elt F) (rB b).toLoadRect g = blockV x b

def outSt (c : Dev nD) (x : Vec F S1024x512 .f32) (k : ℕ) : sProp 𝕄 :=
  iprop(∃ g : Buf (Elt F) ((c : Thread nD τ).loc cc0_stg1_0), ⌜FirstBlocks x k g⌝ ∗ (((c : Thread nD τ).loc cc0_stg1_0) ↦{fullShare} g))

theorem firstBlocks_step (x : Vec F S1024x512 .f32) (b : Fin 8) (g : Vec F S1024x512 .f32) (hg : FirstBlocks x b.val g) :
    FirstBlocks x (b.val + 1) ((oM.access (rB b) : View sig .tc _ _ _).write (Elt F) g (blockV x b) Finset.univ) := by
  intro b' hb'
  show (oM.view.slice (rB b')).read (Elt F) ((oM.view.slice (rB b)).write (Elt F) g (blockV x b) Finset.univ) = _
  by_cases e : b' = b
  · subst e; exact View.read_write_univ _ _
  have hlt : b'.val < b.val := by have : b'.val ≠ b.val := fun h => e (Fin.ext h); omega
  rw [View.read_slice_write_slice_of_disjoint]
  · exact hg b' hlt
  · rw [View.setOn_univ, Finset.disjoint_left]
    intro i hi hi'
    rw [show (oM.view.slice (rB b')).set = (rB b').set from View.set_slice_whole cc0_stg1_0 _, Rect.mem_set_unit] at hi
    rw [show (oM.view.slice (rB b)).set = (rB b).set from View.set_slice_whole cc0_stg1_0 _, Rect.mem_set_unit] at hi'
    have h1 : (i 0).val < 128 * b'.val + 128 := (hi 0).2
    have h2 : 128 * b.val ≤ (i 0).val := (hi' 0).1
    omega

theorem block_run (c : Dev nD) (x : Vec F S1024x512 .f32) (b : Fin 8) {α : Type} (rest : Pr F α) (Q : α → sProp 𝕄) :
    iprop(records m ρ K ∗ outSt c x b.val) ⊢ iprop((outSt c x (b.val + 1) -∗ wpB c rest Q) -∗ wpB c (blockStep x b rest) Q) := by
  unfold outSt blockStep
  simp only [Prog.lift, Prog.bind_op, Prog.bind_ret]
  iintro ⟨-, ⟨%g, %hg, Hg⟩⟩ Hk
  iapply (wp_load 𝒱₀ (c : Thread nD τ) none Set.univ (m := oM) (Finset.subset_univ _)) $$ Hg; iintro Hg
  iapply (wp_store 𝒱₀ (c : Thread nD τ) none Set.univ (m := oM) (r := rB b) (Mk := Finset.univ) (Finset.subset_univ _)) $$ Hg; iintro Hg
  iapply Hk
  iexists _
  isplitr [Hg]
  rotate_left
  · iexact Hg
  ipureintro; exact firstBlocks_step x b g hg

/-! ## The waits for the totals -/

def accPts (c : Dev nD) (a : Vec F S1x512 .f32) : sProp 𝕄 := iprop(((c : Thread nD τ).loc cc0_scratch1) ↦{fullShare} a)

def recvSt (c : Dev nD) (k : ℕ) : sProp 𝕄 :=
  iprop(owesE c 0 ∗ accPts c (accV m ρ c k)
    ∗ (bigSep (todo (· < c) k) fun j => iprop(cred (tallyAt (recvCell c j) () N) ∗ atPos ER (recvCell c j) 0 ∅ 0))
    ∗ bigSep (past (· < c) k) fun j => iprop(atPos ER (recvCell c j) 1 ∅ 0 ∗ ∃ f, slotPts c j f))

theorem hz2 : (![0, 0] : Fin 2 → Nat) = fun _ => 0 := funext fun a => by fin_cases a <;> rfl
theorem read_acc (f : (cc0_scratch1 : Ref sig .tc).ty.Contents (Elt F)) : aM.view.readAt (Elt F) rT.toLoadRect f = f :=
  Memref.readAt_unit_zero (Elt F) cc0_scratch1 hz2 _ f
theorem write_acc (f w : (cc0_scratch1 : Ref sig .tc).ty.Contents (Elt F)) :
    (aM.access rT : View sig .tc _ _ _).write (Elt F) f w Finset.univ = w :=
  Memref.write_access_unit_zero_univ (Elt F) cc0_scratch1 hz2 _ f w
theorem read_slot (j : Dev nD) (f : (cc0_scratch2 : Ref sig .tc).ty.Contents (Elt F)) :
    shapeCast S1x512 (bM.view.readAt (Elt F) (rS j).toLoadRect f) shapeCasts_S1x1x512_S1x512 = (slot j).view.read (Elt F) f := rfl

theorem slot_set (j : Dev nD) : ((slot j).view.set : Finset S16x1x512.Idx) = (rS j).set :=
  (View.set_reshape _ _).trans (View.set_slice_whole cc0_scratch2 (rS j))
theorem slot_loads (j : Dev nD) : (bM.view.setOn (rS j).toLoadRect.set : Finset S16x1x512.Idx) ⊆ (slot j).view.set := by
  rw [slot_set]
  exact le_of_eq ((View.set_slice bM.view (rS j)).symm.trans (View.set_slice_whole cc0_scratch2 (rS j)))

theorem recv_run (c j : Dev nD) {α : Type} (rest : Pr F α) (Q : α → sProp 𝕄) :
    iprop(records m ρ K ∗ recvSt m ρ c j.val) ⊢ iprop((recvSt m ρ c (j.val + 1) -∗ wpB c rest Q) -∗ wpB c (recvStep c j rest) Q) := by
  unfold recvSt recvStep
  by_cases h : j < c
  · rw [dif_pos ((gtW_iff c j).mpr h), todo_take (P := (· < c)) h, bigSep_take _ (todo_notMem j), past_take (P := (· < c)) h, bigSep_take _ (past_notMem j),
      accV_take m ρ h]
    simp only [Prog.lift, Prog.bind_op, Prog.bind_ret]
    unfold owesE accPts
    iintro ⟨#HR, ⟨%W, HO⟩, Ha, ⟨⟨Hc, Hat⟩, Htodo⟩, Hpast⟩ Hk
    iapply (Rounds.wp_wait_rest_token 𝒱₀ ER (scanRd m ρ) (c : Thread nD τ) none (κ := K (c, .inr (.inr j)))
        (wpE_waitDma2_eq 𝒱₀ (c : Thread nD τ) none Set.univ) (Set.mem_univ _) () (O := 0) (W := W) (R := 0) (m := 0) (T := ∅)
        (by rw [Nat.zero_add, expect_recv m ρ c j h])) $$ [Hc HO Hat]
    · isplitr; · iapply (records_inv m ρ K (c, .inr (.inr j))); iexact HR
      isplitl [Hc]; · iexact Hc
      isplitl [HO]; · iexact HO
      isplitr; · rw [MayWait_zero]; iempintro
      iexact Hat
    iintro ⟨HO, Hat, -, Hpay⟩
    ihave Hp := (Entails.of_eq (rest_recv m ρ c j h)) $$ Hpay
    unfold landedPts
    icases Hp with ⟨%f, %hf, Hs⟩
    iapply (wp_load 𝒱₀ (c : Thread nD τ) none Set.univ (m := aM) (Finset.subset_univ _)) $$ Ha; iintro Ha
    rw [read_acc]
    unfold slotPts
    iapply (wp_load 𝒱₀ (c : Thread nD τ) none Set.univ (m := bM) (S := (slot j).view.set) (slot_loads j)) $$ Hs; iintro Hs
    rw [read_slot, hf]
    iapply (wp_load 𝒱₀ (c : Thread nD τ) none Set.univ (m := aM) (Finset.subset_univ _)) $$ Ha; iintro Ha
    iapply (wp_store 𝒱₀ (c : Thread nD τ) none Set.univ (m := aM) (r := rT) (Mk := Finset.univ) (Finset.subset_univ _)) $$ Ha; iintro Ha
    rw [write_acc]
    iapply Hk
    isplitl [HO]; · iexists _; iexact HO
    isplitl [Ha]; · iexact Ha
    isplitl [Htodo]; · iexact Htodo
    isplitr [Hpast]
    · isplitl [Hat]; · iexact Hat
      iexists f; iexact Hs
    iexact Hpast
  · rw [dif_neg (fun e => h ((gtW_iff c j).mp e)), todo_skip (P := (· < c)) h, past_skip (P := (· < c)) h, accV_skip m ρ h]
    iintro ⟨-, HS⟩ Hk
    iapply Hk; iexact HS

/-! ## The waits for the copies sent -/

def drainSt (c : Dev nD) (k : ℕ) : sProp 𝕄 :=
  iprop(owesE c 0
    ∗ (bigSep (todo (c < ·) k) fun j => iprop(cred (tallyAt (sendCell c j) () N) ∗ atPos ER (sendCell c j) 0 ∅ 0))
    ∗ bigSep (past (c < ·) k) fun j => iprop(atPos ER (sendCell c j) 1 ∅ 0 ∗ totPts m ρ c (leafOf j)))

theorem drain_run (c j : Dev nD) {α : Type} (rest : Pr F α) (Q : α → sProp 𝕄) :
    iprop(records m ρ K ∗ drainSt m ρ c j.val) ⊢ iprop((drainSt m ρ c (j.val + 1) -∗ wpB c rest Q) -∗ wpB c (drainStep c j rest) Q) := by
  unfold drainSt drainStep owesE
  by_cases h : c < j
  · rw [dif_pos ((ltW_iff c j).mpr h), todo_take (P := (c < ·)) h, bigSep_take _ (todo_notMem j), past_take (P := (c < ·)) h, bigSep_take _ (past_notMem j)]
    simp only [Prog.lift, Prog.bind_op, Prog.bind_ret]
    iintro ⟨#HR, ⟨%W, HO⟩, ⟨⟨Hc, Hat⟩, Htodo⟩, Hpast⟩ Hk
    iapply (Rounds.wp_wait_rest_token 𝒱₀ ER (scanRd m ρ) (c : Thread nD τ) none (κ := K (c, .inr (.inl j)))
        (wpE_waitDma2_eq 𝒱₀ (c : Thread nD τ) none Set.univ) (Set.mem_univ _) () (O := 0) (W := W) (R := 0) (m := 0) (T := ∅)
        (by rw [Nat.zero_add, expect_send m ρ c j h])) $$ [Hc HO Hat]
    · isplitr; · iapply (records_inv m ρ K (c, .inr (.inl j))); iexact HR
      isplitl [Hc]; · iexact Hc
      isplitl [HO]; · iexact HO
      isplitr; · rw [MayWait_zero]; iempintro
      iexact Hat
    iintro ⟨HO, Hat, -, Hpay⟩
    ihave Hp := (Entails.of_eq (rest_send m ρ c j h)) $$ Hpay
    iapply Hk
    isplitl [HO]; · iexists _; iexact HO
    isplitl [Htodo]; · iexact Htodo
    isplitr [Hpast]
    · isplitl [Hat] <;> iassumption
    iexact Hpast
  · rw [dif_neg (fun e => h ((ltW_iff c j).mp e)), todo_skip (P := (c < ·)) h, past_skip (P := (c < ·)) h]
    iintro ⟨-, HS⟩ Hk
    iapply Hk; iexact HS

end Cert.KernelIdeal.Scan

end
-- ==== Proof.KernelIdeal.Parts.lean ====
/-
  One rule per printed part of the body: each runs its loops from the state it finds to the state it leaves.
-/
module

public import proofs.«01_k».proof.Proof.KernelIdeal.Steps

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## Buffers cut into pieces and joined again -/

theorem slots_disjoint (j j' : Dev nD) (h : j ≠ j') :
    Disjoint ((slot j).view.set : Finset S16x1x512.Idx) (slot j').view.set := by
  rw [slot_set, slot_set]
  exact Ring.lead_disjoint (s := S16x1x512) (NB := 16) 0 1 offS S1x1x512.size offS_inb (fun b => (Nat.one_mul _).symm) rfl j j' h
abbrev slotSet (j : Dev nD) : Finset S16x1x512.Idx := (slot j).view.set
theorem slots_cover : (Finset.univ : Finset (Dev nD)).biUnion slotSet = Finset.univ := by
  rw [show slotSet = fun j => (rS j).set from funext slot_set]
  exact Ring.lead_cover (s := S16x1x512) (NB := 16) 0 1 offS S1x1x512.size offS_inb (fun b => (Nat.one_mul _).symm) (by decide) rfl (by decide) (by decide)

theorem slots_split (c : Dev nD) (f : Buf (Elt F) ((c : Thread nD τ).loc cc0_scratch2)) :
    ((((c : Thread nD τ).loc cc0_scratch2) ↦{fullShare} f : sProp 𝕄)) ⊢ bigSep Finset.univ fun j => iprop(∃ f, slotPts (F := F) c j f) := by
  rw [Ring.pointsTo_blocks (ℓ := (c : Thread nD τ).loc cc0_scratch2) slotSet slots_disjoint slots_cover f]
  refine bigSep_mono fun j _ => ?_
  show slotPts (F := F) c j f ⊢ iprop(∃ f, slotPts (F := F) c j f)
  iintro H; iexists f; iexact H

theorem slots_join (c : Dev nD) :
    (bigSep Finset.univ fun j => iprop(∃ f, slotPts (F := F) c j f)) ⊢ (iprop(∃ f, (((c : Thread nD τ).loc cc0_scratch2) ↦{fullShare} f)) : sProp 𝕄) := by
  unfold slotPts
  exact Ring.pointsTo_blocks_join_exists (ℓ := (c : Thread nD τ).loc cc0_scratch2) slotSet slots_disjoint slots_cover
    (constant (F := F) S16x1x512 .f32 0x00000000#32 : FVec F S16x1x512 .f32)

theorem leaves_split (c : Dev nD) :
    ((((c : Thread nD τ).loc cc0_scratch0) ↦{fullShare} tot m ρ c : sProp 𝕄)) = bigSep Finset.univ fun j => totPts m ρ c (leafOf j) := by
  unfold totPts
  rw [show (tM.view.set : Finset S1x512.Idx) = Finset.univ from View.set_whole _]
  exact ShareLeaves.pointsTo_leaves (ℓ := (c : Thread nD τ).loc cc0_scratch0) Finset.univ (tot m ρ c) 4 fullShare

/-- A family over the devices, over those with `P` and over the others. -/
theorem bigSep_halves (P : Dev nD → Prop) [DecidablePred P] (Φ : Dev nD → sProp 𝕄) :
    (bigSep Finset.univ Φ : sProp 𝕄) = iprop(bigSep (Finset.univ.filter P) Φ ∗ bigSep (Finset.univ.filter fun j => ¬ P j) Φ) :=
  bigSep_filter_split Finset.univ P
theorem bigSep_half (P : Dev nD → Prop) [DecidablePred P] (Φ : Dev nD → sProp 𝕄) :
    (bigSep Finset.univ Φ : sProp 𝕄) ⊢ bigSep (Finset.univ.filter P) Φ := bigSep_subset (Finset.filter_subset _ _)

/-! ## The parts -/

theorem ret_run (c : Dev nD) {α : Type} (a : α) (Q : α → sProp 𝕄) : Q a ⊢ wpB c (pure a) Q := by
  unfold wpB
  rw [Prog.pure_eq_ret, wp_ret]
  iintro H; imodintro; iexact H

theorem part1_run (c : Dev nD) (Q) :
    iprop(records m ρ K ∗ signalSt c 0)
      ⊢ iprop((signalSt c 7 -∗ Q ⟨c, wd c, SemArray.scalar (sig.barrier 0 rfl), Scalar.muli 7#32 1#32⟩)
        -∗ wpB c (k0_part1_skel (F := F) xM wx oM wo tM wt aM wa bM wb cc0_scratch3 cc0_scratch4) Q) := by
  rw [part1_eq]; simp only [Prog.lift, Prog.bind_op, Prog.bind_ret, wp_deviceId]
  iintro ⟨#HR, HS⟩ Hk
  iapply (loop_run c (records m ρ K) (signalSt c) signalStep Q (fun j rest => signal_run m ρ K c j rest Q) _ 7 0 _) $$ [HS]
  · isplitr; · iexact HR
    iexact HS
  iintro HS
  iapply (ret_run c _ Q)
  iapply Hk; iexact HS

theorem part2_run (c : Dev nD) (v : BitVec 32) (Q) :
    iprop(records m ρ K ∗ signalSt c 7)
      ⊢ iprop((signalSt c 16 -∗ Q ⟨⟩)
        -∗ wpB c (k0_part2_skel (F := F) xM wx oM wo tM wt aM wa bM wb cc0_scratch3 cc0_scratch4 (SemArray.scalar (sig.barrier 0 rfl)) v) Q) := by
  rw [part2_eq]
  iintro ⟨#HR, HS⟩ Hk
  iapply (loop_run c (records m ρ K) (signalSt c) signalStep Q (fun j rest => signal_run m ρ K c j rest Q) _ 9 7 _) $$ [HS]
  · isplitr; · iexact HR
    iexact HS
  iintro HS
  iapply (ret_run c _ Q)
  iapply Hk; iexact HS

/-- The block of the argument as staged. -/
def xPts (c : Dev nD) : sProp 𝕄 := iprop(((c : Thread nD τ).loc cc0_stg0_0) ↦{fullShare} xstg m ρ c)

theorem read_x (f : (cc0_stg0_0 : Ref sig .tc).ty.Contents (Elt F)) : xM.view.readAt (Elt F) rX.toLoadRect f = f :=
  Memref.readAt_unit_zero (Elt F) cc0_stg0_0 hz2 _ f
theorem read_o (f : (cc0_stg1_0 : Ref sig .tc).ty.Contents (Elt F)) : oM.view.readAt (Elt F) rX.toLoadRect f = f :=
  Memref.readAt_unit_zero (Elt F) cc0_stg1_0 hz2 _ f
theorem write_o (f w : (cc0_stg1_0 : Ref sig .tc).ty.Contents (Elt F)) :
    (oM.access rX : View sig .tc _ _ _).write (Elt F) f w Finset.univ = w :=
  Memref.write_access_unit_zero_univ (Elt F) cc0_stg1_0 hz2 _ f w
theorem write_tot (f w : (cc0_scratch0 : Ref sig .tc).ty.Contents (Elt F)) :
    (tM.access rT : View sig .tc _ _ _).write (Elt F) f w Finset.univ = w :=
  Memref.write_access_unit_zero_univ (Elt F) cc0_scratch0 hz2 _ f w

theorem totals_run (c : Dev nD) {α : Type} (rest : Pr F α) (Q : α → sProp 𝕄) :
    iprop(xPts m ρ c ∗ ∃ f : Buf (Elt F) ((c : Thread nD τ).loc cc0_scratch0), (((c : Thread nD τ).loc cc0_scratch0) ↦{fullShare} f))
      ⊢ iprop(((xPts m ρ c ∗ (((c : Thread nD τ).loc cc0_scratch0) ↦{fullShare} tot m ρ c)) -∗ wpB c rest Q) -∗ wpB c (totalsStep rest) Q) := by
  unfold xPts totalsStep
  simp only [Prog.lift, Prog.bind_op, Prog.bind_ret]
  iintro ⟨Hx, ⟨%f, Ht⟩⟩ Hk
  iapply (wp_load 𝒱₀ (c : Thread nD τ) none Set.univ (m := xM) (Finset.subset_univ _)) $$ Hx; iintro Hx
  rw [read_x]
  iapply (wp_load 𝒱₀ (c : Thread nD τ) none Set.univ (m := tM) (Finset.subset_univ _)) $$ Ht; iintro Ht
  iapply (wp_store 𝒱₀ (c : Thread nD τ) none Set.univ (m := tM) (r := rT) (Mk := Finset.univ) (Finset.subset_univ _)) $$ Ht; iintro Ht
  rw [write_tot]
  iapply Hk
  isplitl [Hx]; · iexact Hx
  iexact Ht

theorem clear_run (c : Dev nD) {α : Type} (rest : Pr F α) (Q : α → sProp 𝕄) :
    iprop(∃ f : Buf (Elt F) ((c : Thread nD τ).loc cc0_scratch1), (((c : Thread nD τ).loc cc0_scratch1) ↦{fullShare} f))
      ⊢ iprop((accPts c (accV m ρ c 0) -∗ wpB c rest Q) -∗ wpB c (clearStep rest) Q) := by
  unfold clearStep accPts
  simp only [Prog.lift, Prog.bind_op, Prog.bind_ret]
  iintro ⟨%f, Ha⟩ Hk
  iapply (wp_load 𝒱₀ (c : Thread nD τ) none Set.univ (m := aM) (Finset.subset_univ _)) $$ Ha; iintro Ha
  iapply (wp_store 𝒱₀ (c : Thread nD τ) none Set.univ (m := aM) (r := rT) (Mk := Finset.univ) (Finset.subset_univ _)) $$ Ha; iintro Ha
  rw [write_acc]
  iapply Hk
  iexact Ha

/-! ### The result -/

/-- The local prefix sums, block by block. -/
def locA (x : Vec F S1024x512 .f32) : Vec F S1024x512 .f32 := fun i =>
  blockV x ⟨(i 0).val / 128, by have : (i 0).val < 1024 := (i 0).isLt; omega⟩
    (fun a => match a with
      | ⟨0, _⟩ => ⟨(i 0).val % 128, Nat.mod_lt _ (by decide)⟩
      | ⟨1, _⟩ => i 1)

/-- Once all eight blocks are stored the output holds the local prefix sums. -/
theorem firstBlocks_end (x g : Vec F S1024x512 .f32) (h : FirstBlocks x 8 g) : g = locA x := by
  funext i
  have hi : (i 0).val < 1024 := (i 0).isLt
  unfold locA
  rw [← h ⟨(i 0).val / 128, by omega⟩ (by show (i 0).val / 128 < 8; omega)]
  show g i = g _
  congr 1
  funext a
  apply Fin.ext
  fin_cases a
  · show (i 0).val = 128 * ((i 0).val / 128) + 1 * ((i 0).val % 128); omega
  · show (i 1).val = 0 + 1 * (i 1).val; omega

def outAt (c : Dev nD) : (cc0_stg1_0 : Ref sig .tc).ty.Contents (Elt F) := k0_pay43 (locA (xstg m ρ c)) (accV m ρ c 16)
def resPts (c : Dev nD) : sProp 𝕄 := iprop(((c : Thread nD τ).loc cc0_stg1_0) ↦{fullShare} outAt m ρ c)

theorem finish_run (c : Dev nD) {α : Type} (rest : Pr F α) (Q : α → sProp 𝕄) :
    iprop(outSt c (xstg m ρ c) 8 ∗ accPts c (accV m ρ c 16))
      ⊢ iprop(((resPts m ρ c ∗ accPts c (accV m ρ c 16)) -∗ wpB c rest Q) -∗ wpB c (finishStep rest) Q) := by
  unfold outSt finishStep accPts resPts outAt
  simp only [Prog.lift, Prog.bind_op, Prog.bind_ret]
  iintro ⟨⟨%g, %hg, Hg⟩, Ha⟩ Hk
  have e : g = locA (xstg m ρ c) := firstBlocks_end _ _ hg
  subst e
  iapply (wp_load 𝒱₀ (c : Thread nD τ) none Set.univ (m := oM) (Finset.subset_univ _)) $$ Hg; iintro Hg
  rw [read_o]
  iapply (wp_load 𝒱₀ (c : Thread nD τ) none Set.univ (m := aM) (Finset.subset_univ _)) $$ Ha; iintro Ha
  rw [read_acc]
  iapply (wp_load 𝒱₀ (c : Thread nD τ) none Set.univ (m := oM) (Finset.subset_univ _)) $$ Hg; iintro Hg
  iapply (wp_store 𝒱₀ (c : Thread nD τ) none Set.univ (m := oM) (r := rX) (Mk := Finset.univ) (Finset.subset_univ _)) $$ Hg; iintro Hg
  rw [write_o]
  iapply Hk
  isplitl [Hg]; · iexact Hg
  iexact Ha

/-! ### The barrier -/

/-- What a device meets the barrier with, beyond its totals' buffers: the credit for its own sixteen units, its place at
    its barrier cell, and the duties of its copies. -/
def meetSt (c : Dev nD) : sProp 𝕄 :=
  iprop(owesE c (owedCopies c 0) ∗ cred (tallyAt (barCell c) () 16) ∗ atPos ER (barCell c) 0 ∅ 0
    ∗ bigSep (Finset.univ.filter (c < ·)) fun j => iprop(dutyTok ER (sendCell c j) 0 j ∗ dutyTok ER (recvCell j c) 0 c))
/-- What it has after: every later device's slot. -/
def metSt (c : Dev nD) : sProp 𝕄 :=
  iprop(owesE c (owedCopies c 0) ∗ atPos ER (barCell c) 1 ∅ 0
    ∗ (bigSep (Finset.univ.filter (c < ·)) fun j => iprop(dutyTok ER (sendCell c j) 0 j ∗ dutyTok ER (recvCell j c) 0 c))
    ∗ bigSep (Finset.univ.filter (c < ·)) fun j => iprop(∃ f, slotPts (F := F) j c f))

theorem barPays (c : Dev nD) : bigSep Finset.univ (barPay (F := F) c) = bigSep (Finset.univ.filter (c < ·)) fun j => iprop(∃ f, slotPts (F := F) j c f) :=
  (bigSep_filter Finset.univ (c < ·) _).symm

theorem meet_run (c : Dev nD) {α : Type} (rest : Pr F α) (Q : α → sProp 𝕄) :
    iprop((records m ρ K ∗ levAts L lv) ∗ meetSt c)
      ⊢ iprop((metSt c -∗ wpB c rest Q) -∗ wpB c (semWaitWord barS 16#32 >>= fun _ => rest) Q) := by
  unfold meetSt metSt owesE
  simp only [semWaitWord, Prog.lift, Prog.bind_op, Prog.bind_ret]
  iintro ⟨⟨#HR, #Hlev⟩, ⟨%W, HO⟩, Hc, Hat, Htok⟩ Hk
  iapply (Rounds.wp_wait_rest_token 𝒱₀ ER (scanRd m ρ) (c : Thread nD τ) none (κ := K (c, .inl ()))
      (wpE_semWait_eq 𝒱₀ (c : Thread nD τ) none Set.univ) (Set.mem_univ _) () (O := owedCopies c 0) (W := W) (R := 0) (m := 0) (T := ∅)
      (by rw [expect_bar]; decide)) $$ [Hc HO Hat]
  · isplitr; · iapply (records_inv m ρ K (c, .inl ())); iexact HR
    isplitl [Hc]; · iexact Hc
    isplitl [HO]; · iexact HO
    isplitr; · iapply (mayWait_bar c 0); iexact Hlev
    iexact Hat
  iintro ⟨HO, Hat, -, Hpay⟩
  ihave Hp := (Entails.of_eq ((rest_bar m ρ c).trans (barPays c))) $$ Hpay
  iapply Hk
  isplitl [HO]; · iexists _; iexact HO
  isplitl [Hat]; · iexact Hat
  isplitl [Htok] <;> iassumption

/-- What the copies start from. -/
theorem sendSt_intro (c : Dev nD) :
    iprop(metSt c ∗ (((c : Thread nD τ).loc cc0_scratch0) ↦{fullShare} tot m ρ c))
      ⊢ iprop(sendSt m ρ c 0 ∗ atPos ER (barCell c) 1 ∅ 0 ∗ bigSep (Finset.univ.filter fun j => ¬ c < j) fun j => totPts m ρ c (leafOf j)) := by
  unfold metSt sendSt
  rw [leaves_split, bigSep_halves (c < ·) (fun j => totPts m ρ c (leafOf j)), todo_zero, past_zero, bigSep_empty, bigSep_sep', bigSep_sep', bigSep_sep', bigSep_sep']
  iintro ⟨⟨HO, Hat, ⟨Ht1, Ht2⟩, Hs⟩, Hl, Hr⟩
  isplitr [Hat Hr]
  · isplitl [HO]; · iexact HO
    isplitr []
    · isplitl [Ht1 Ht2]; · isplitl [Ht1] <;> iassumption
      isplitl [Hs] <;> iassumption
    iempintro
  isplitl [Hat] <;> iassumption

end Cert.KernelIdeal.Scan

end
-- ==== Proof.KernelIdeal.Body.lean ====
/-
  The whole body of one device: from the launch's resources to the buffers whole again, the result stored, and every
  cell closed at zero.
-/
module

public import proofs.«01_k».proof.Proof.KernelIdeal.Parts
public import Idealize.ShloMosaic.Lib.Rounds.Family

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The later parts -/

theorem part3_run (c : Dev nD) (Q) :
    iprop((records m ρ K ∗ levAts L lv) ∗ meetSt c ∗ xPts m ρ c ∗ ∃ f : Buf (Elt F) ((c : Thread nD τ).loc cc0_scratch0), (((c : Thread nD τ).loc cc0_scratch0) ↦{fullShare} f))
      ⊢ iprop(((sendSt m ρ c 6 ∗ xPts m ρ c ∗ atPos ER (barCell c) 1 ∅ 0 ∗ bigSep (Finset.univ.filter fun j => ¬ c < j) fun j => totPts m ρ c (leafOf j))
          -∗ Q (Scalar.extui (Scalar.cmpi .slt (wd c) 6#32)))
        -∗ wpB c (k0_part3_skel (F := F) xM wx oM wo tM wt aM wa bM wb cc0_scratch3 cc0_scratch4 c (wd c) (SemArray.scalar (sig.barrier 0 rfl))) Q) := by
  rw [part3_eq]
  iintro ⟨⟨#HR, #Hlev⟩, HS, Hx, Ht⟩ Hk
  iapply (meet_run m ρ K c _ Q) $$ [HS]
  · isplitr
    · isplitr; · iexact HR
      iexact Hlev
    iexact HS
  iintro HS
  iapply (totals_run m ρ c _ Q) $$ [Hx Ht]
  · isplitl [Hx] <;> iassumption
  iintro ⟨Hx, Ht⟩
  ihave HS := (sendSt_intro m ρ c) $$ [HS Ht]
  · isplitl [HS] <;> iassumption
  icases HS with ⟨HS, Hat, Hr⟩
  iapply (loop_run c (records m ρ K) (sendSt m ρ c) (sendStep c) Q (fun j rest => send_run m ρ K c j rest Q) _ 6 0 _) $$ [HS]
  · isplitr; · iexact HR
    iexact HS
  iintro HS
  iapply (ret_run c _ Q)
  iapply Hk
  isplitl [HS]; · iexact HS
  isplitl [Hx]; · iexact Hx
  isplitl [Hat] <;> iassumption

theorem part4_run (c : Dev nD) (v : BitVec 32) (Q) :
    iprop(records m ρ K ∗ sendSt m ρ c 6)
      ⊢ iprop((sendSt m ρ c 15 -∗ Q ⟨⟩)
        -∗ wpB c (k0_part4_skel (F := F) xM wx oM wo tM wt aM wa bM wb cc0_scratch3 cc0_scratch4 c (wd c) v) Q) := by
  rw [part4_eq]
  iintro ⟨#HR, HS⟩ Hk
  iapply (loop_run c (records m ρ K) (sendSt m ρ c) (sendStep c) Q (fun j rest => send_run m ρ K c j rest Q) _ 9 6 _) $$ [HS]
  · isplitr; · iexact HR
    iexact HS
  iintro HS
  iapply (ret_run c _ Q)
  iapply Hk; iexact HS

theorem outSt_intro (c : Dev nD) (x : Vec F S1024x512 .f32) :
    (iprop(∃ g : Buf (Elt F) ((c : Thread nD τ).loc cc0_stg1_0), (((c : Thread nD τ).loc cc0_stg1_0) ↦{fullShare} g)) : sProp 𝕄) ⊢ outSt c x 0 := by
  unfold outSt
  iintro ⟨%g, Hg⟩
  iexists g
  isplitr; · ipureintro; exact fun b hb => absurd hb (Nat.not_lt_zero _)
  iexact Hg

theorem part5_run (c : Dev nD) (Q) :
    iprop(records m ρ K ∗ sendSt m ρ c 15 ∗ xPts m ρ c ∗ outSt c (xstg m ρ c) 0)
      ⊢ iprop(((sendSt m ρ c 16 ∗ xPts m ρ c ∗ outSt c (xstg m ρ c) 3)
          -∗ Q ⟨k0_pay2 (F := F), k0_pay3 (xstg m ρ c), k0_pay13 (xstg m ρ c), k0_pay14 (xstg m ρ c), k0_pay15 (xstg m ρ c)⟩)
        -∗ wpB c (k0_part5_skel (F := F) xM wx oM wo tM wt aM wa bM wb cc0_scratch3 cc0_scratch4 c (wd c)) Q) := by
  rw [part5_eq]
  iintro ⟨#HR, HS, Hx, Ho⟩ Hk
  iapply (loop_run c (records m ρ K) (sendSt m ρ c) (sendStep c) Q (fun j rest => send_run m ρ K c j rest Q) _ 1 15 _) $$ [HS]
  · isplitr; · iexact HR
    iexact HS
  iintro HS
  simp only [Prog.lift, Prog.bind_op, Prog.bind_ret]
  unfold xPts
  iapply (wp_load 𝒱₀ (c : Thread nD τ) none Set.univ (m := xM) (Finset.subset_univ _)) $$ Hx; iintro Hx
  rw [read_x]
  iapply (loop_run c (records m ρ K) (outSt c (xstg m ρ c)) (blockStep (xstg m ρ c)) Q (fun b rest => block_run m ρ K c (xstg m ρ c) b rest Q) _ 3 0 _) $$ [Ho]
  · isplitr; · iexact HR
    iexact Ho
  iintro Ho
  iapply (ret_run c _ Q)
  iapply Hk
  isplitl [HS]; · iexact HS
  isplitl [Hx] <;> iassumption

theorem part6_run (c : Dev nD) (Q) :
    iprop(records m ρ K ∗ outSt c (xstg m ρ c) 3 ∗ ∃ f : Buf (Elt F) ((c : Thread nD τ).loc cc0_scratch1), (((c : Thread nD τ).loc cc0_scratch1) ↦{fullShare} f))
      ⊢ iprop(((outSt c (xstg m ρ c) 8 ∗ accPts c (accV m ρ c 0)) -∗ Q (gtW c 0))
        -∗ wpB c (k0_part6_skel (F := F) xM wx oM wo tM wt aM wa bM wb cc0_scratch3 cc0_scratch4 (wd c)
            (k0_pay2 (F := F)) (k0_pay3 (xstg m ρ c)) (k0_pay13 (xstg m ρ c)) (k0_pay14 (xstg m ρ c)) (k0_pay15 (xstg m ρ c))) Q) := by
  rw [part6_eq]
  iintro ⟨#HR, Ho, Ha⟩ Hk
  iapply (loop_run c (records m ρ K) (outSt c (xstg m ρ c)) (blockStep (xstg m ρ c)) Q (fun b rest => block_run m ρ K c (xstg m ρ c) b rest Q) _ 5 3 _) $$ [Ho]
  · isplitr; · iexact HR
    iexact Ho
  iintro Ho
  iapply (clear_run m ρ c _ Q) $$ [Ha]
  · iexact Ha
  iintro Ha
  iapply (ret_run c _ Q)
  iapply Hk
  isplitl [Ho] <;> iassumption

theorem part7_run (c : Dev nD) (Q) :
    iprop(records m ρ K ∗ recvSt m ρ c 0)
      ⊢ iprop((recvSt m ρ c 10 -∗ Q (gtW c 10))
        -∗ wpB c (k0_part7_skel (F := F) xM wx oM wo tM wt aM wa bM wb cc0_scratch3 cc0_scratch4 (wd c) (gtW c 0)) Q) := by
  rw [part7_eq]
  iintro ⟨#HR, HS⟩ Hk
  iapply (loop_run c (records m ρ K) (recvSt m ρ c) (recvStep c) Q (fun j rest => recv_run m ρ K c j rest Q) _ 10 0 _) $$ [HS]
  · isplitr; · iexact HR
    iexact HS
  iintro HS
  iapply (ret_run c _ Q)
  iapply Hk; iexact HS

/-- What the sixteen receive cells leave. -/
def gotSt (c : Dev nD) : sProp 𝕄 :=
  iprop((bigSep (Finset.univ.filter (· < c)) fun j => atPos ER (recvCell c j) 1 ∅ 0)
    ∗ bigSep (Finset.univ.filter (· < c)) fun j => iprop(∃ f, slotPts (F := F) c j f))
/-- What the sixteen send cells need, and what they leave. -/
def sentSt (c : Dev nD) : sProp 𝕄 :=
  iprop((bigSep (Finset.univ.filter (c < ·)) fun j => cred (tallyAt (sendCell c j) () N))
    ∗ bigSep (Finset.univ.filter (c < ·)) fun j => atPos ER (sendCell c j) 0 ∅ 0)
def drainedSt (c : Dev nD) : sProp 𝕄 :=
  iprop((bigSep (Finset.univ.filter (c < ·)) fun j => atPos ER (sendCell c j) 1 ∅ 0)
    ∗ bigSep (Finset.univ.filter (c < ·)) fun j => totPts m ρ c (leafOf j))

theorem recvSt_intro (c : Dev nD) :
    iprop(owesE c 0 ∗ accPts c (accV m ρ c 0) ∗ (bigSep (Finset.univ.filter (· < c)) fun j => cred (tallyAt (recvCell c j) () N))
        ∗ bigSep (Finset.univ.filter (· < c)) fun j => atPos ER (recvCell c j) 0 ∅ 0)
      ⊢ recvSt m ρ c 0 := by
  unfold recvSt
  rw [todo_zero, past_zero, bigSep_empty, bigSep_sep']
  iintro ⟨HO, Ha, Hc, Hat⟩
  isplitl [HO]; · iexact HO
  isplitl [Ha]; · iexact Ha
  isplitr []
  · isplitl [Hc] <;> iassumption
  iempintro

theorem recvSt_end (c : Dev nD) : recvSt m ρ c 16 ⊢ iprop(owesE c 0 ∗ accPts c (accV m ρ c 16) ∗ gotSt c) := by
  unfold recvSt gotSt
  rw [todo_end, past_end, bigSep_empty, bigSep_sep']
  iintro ⟨HO, Ha, -, Hat, Hs⟩
  isplitl [HO]; · iexact HO
  isplitl [Ha]; · iexact Ha
  isplitl [Hat] <;> iassumption

theorem drainSt_intro (c : Dev nD) : iprop(owesE c 0 ∗ sentSt c) ⊢ drainSt m ρ c 0 := by
  unfold drainSt sentSt
  rw [todo_zero, past_zero, bigSep_empty, bigSep_sep']
  iintro ⟨HO, Hc, Hat⟩
  isplitl [HO]; · iexact HO
  isplitr []
  · isplitl [Hc] <;> iassumption
  iempintro

theorem drainSt_end (c : Dev nD) : drainSt m ρ c 16 ⊢ iprop(owesE c 0 ∗ drainedSt m ρ c) := by
  unfold drainSt drainedSt
  rw [todo_end, past_end, bigSep_empty, bigSep_sep']
  iintro ⟨HO, -, Hat, Ht⟩
  isplitl [HO]; · iexact HO
  isplitl [Hat] <;> iassumption

theorem part8_run (c : Dev nD) (Q) :
    iprop(records m ρ K ∗ recvSt m ρ c 10 ∗ outSt c (xstg m ρ c) 8 ∗ sentSt c)
      ⊢ iprop(((drainSt m ρ c 2 ∗ gotSt c ∗ resPts m ρ c ∗ accPts c (accV m ρ c 16)) -∗ Q (Scalar.cmpi .slt (wd c) 2#32))
        -∗ wpB c (k0_part8_skel (F := F) xM wx oM wo tM wt aM wa bM wb cc0_scratch3 cc0_scratch4 c (wd c) (gtW c 10)) Q) := by
  rw [part8_eq]
  iintro ⟨#HR, HS, Ho, Hsent⟩ Hk
  iapply (loop_run c (records m ρ K) (recvSt m ρ c) (recvStep c) Q (fun j rest => recv_run m ρ K c j rest Q) _ 6 10 _) $$ [HS]
  · isplitr; · iexact HR
    iexact HS
  iintro HS
  ihave HS := (recvSt_end m ρ c) $$ [HS]
  · iexact HS
  icases HS with ⟨HO, Ha, Hgot⟩
  iapply (finish_run m ρ c _ Q) $$ [Ho Ha]
  · isplitl [Ho] <;> iassumption
  iintro ⟨Hres, Ha⟩
  ihave HS := (drainSt_intro m ρ c) $$ [HO Hsent]
  · isplitl [HO] <;> iassumption
  iapply (loop_run c (records m ρ K) (drainSt m ρ c) (drainStep c) Q (fun j rest => drain_run m ρ K c j rest Q) _ 2 0 _) $$ [HS]
  · isplitr; · iexact HR
    iexact HS
  iintro HS
  iapply (ret_run c _ Q)
  iapply Hk
  isplitl [HS]; · iexact HS
  isplitl [Hgot]; · iexact Hgot
  isplitl [Hres] <;> iassumption

theorem part9_run (c : Dev nD) (v : BitVec 1) (Q) :
    iprop(records m ρ K ∗ drainSt m ρ c 2)
      ⊢ iprop((drainSt m ρ c 10 -∗ Q ⟨⟩)
        -∗ wpB c (k0_part9_skel (F := F) xM wx oM wo tM wt aM wa bM wb cc0_scratch3 cc0_scratch4 c (wd c) v) Q) := by
  rw [part9_eq]
  iintro ⟨#HR, HS⟩ Hk
  iapply (loop_run c (records m ρ K) (drainSt m ρ c) (drainStep c) Q (fun j rest => drain_run m ρ K c j rest Q) _ 8 2 _) $$ [HS]
  · isplitr; · iexact HR
    iexact HS
  iintro HS
  iapply (ret_run c _ Q)
  iapply Hk; iexact HS

theorem ret_fupd_run (c : Dev nD) {α : Type} (a : α) (Q : α → sProp 𝕄) : (iprop(|={Set.univ}=> Q a) : sProp 𝕄) ⊢ wpB c (pure a) Q := by
  unfold wpB
  rw [Prog.pure_eq_ret, wp_ret]

theorem last_run (c : Dev nD) (Q : PUnit → sProp 𝕄) :
    iprop(records m ρ K ∗ drainSt m ρ c 10)
      ⊢ iprop(((owesE c 0 ∗ drainedSt m ρ c) -∗ |={Set.univ}=> Q ⟨⟩) -∗ wpB c (loop (drainStep c) (pure ⟨⟩ : Pr F PUnit) 6 10 (by decide)) Q) := by
  iintro ⟨#HR, HS⟩ Hk
  iapply (loop_run c (records m ρ K) (drainSt m ρ c) (drainStep c) Q (fun j rest => drain_run m ρ K c j rest Q) _ 6 10 _) $$ [HS]
  · isplitr; · iexact HR
    iexact HS
  iintro HS
  ihave HS := (drainSt_end m ρ c) $$ [HS]
  · iexact HS
  iapply (ret_fupd_run c _ Q)
  iapply Hk; iexact HS

/-! ## The cells opened and closed -/

/-- A family over a device's cells: the barrier's, the send cells of later devices and of the others, the receive cells of
    earlier devices and of the others. -/
theorem bigSep_CK (c : Dev nD) (Φ : CK → sProp 𝕄) :
    (bigSep Finset.univ Φ : sProp 𝕄) = iprop(Φ (.inl ())
      ∗ ((bigSep (Finset.univ.filter (c < ·)) fun j => Φ (.inr (.inl j))) ∗ bigSep (Finset.univ.filter fun j => ¬ c < j) fun j => Φ (.inr (.inl j)))
      ∗ ((bigSep (Finset.univ.filter (· < c)) fun j => Φ (.inr (.inr j))) ∗ bigSep (Finset.univ.filter fun j => ¬ j < c) fun j => Φ (.inr (.inr j)))) := by
  rw [bigSep_univ_sum, bigSep_univ_sum, bigSep_univ_of_subsingleton (), bigSep_halves (c < ·), bigSep_halves (· < c)]; rfl

/-- The round each cell of `c` ends in: the next one where it had a duty. -/
def lastRound (c : Dev nD) : CK → ℕ
  | .inl _ => 1
  | .inr (.inl j) => if c < j then 1 else 0
  | .inr (.inr j) => if j < c then 1 else 0

theorem lastRound_send (c j : Dev nD) : lastRound c (.inr (.inl j)) = if c < j then 1 else 0 := rfl
theorem lastRound_recv (c j : Dev nD) : lastRound c (.inr (.inr j)) = if j < c then 1 else 0 := rfl

theorem lastRound_duties (c : Dev nD) (k : CK) (r : ℕ) (h : lastRound c k ≤ r) : (scanRd (F := F) m ρ).duties (kcell (c, k)) r = ∅ := by
  rcases Nat.eq_zero_or_pos r with rfl | hr
  · rcases k with u | j | j
    · exact absurd (show 1 ≤ 0 from h) (by decide)
    · show (scanRd m ρ).duties (sendCell c j) 0 = ∅
      rw [duties_send]
      by_cases hj : c < j
      · rw [lastRound_send, if_pos hj] at h; omega
      · rw [if_neg hj]
    · show (scanRd m ρ).duties (recvCell c j) 0 = ∅
      rw [duties_recv]
      by_cases hj : j < c
      · rw [lastRound_recv] at h; rw [if_pos hj] at h; omega
      · rw [if_neg hj]
  · exact duties_later m ρ _ r hr

/-- The places of `c` at its cells, `R` their rounds. -/
def places (c : Dev nD) (R : CK → ℕ) : sProp 𝕄 := bigSep Finset.univ fun k : CK => atPos ER (kcell (c, k)) (R k) ∅ 0
/-- The counters of `c`'s cells at zero. -/
def zeros (c : Dev nD) : sProp 𝕄 := bigSep Finset.univ fun k : CK => semVal (kcell (c, k)) 0

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_all (c : Dev nD) : iprop(records m ρ K ∗ places c (lastRound c)) ⊢ (|={Set.univ}=> zeros c : sProp 𝕄) := by
  unfold places zeros
  refine BI.Entails.trans ?_ (Rounds.cells_close ER (scanRd m ρ) Finset.univ (fun k : CK => kcell (c, k)) (fun k => K (c, k)) (Es := Set.univ)
    (fun _ _ => Set.mem_univ _) (fun _ _ h => h) (lastRound c) (fun k _ r h => lastRound_duties m ρ c k r h))
  refine bigSep_with fun k _ => ?_
  iintro ⟨#HR, Hat⟩
  isplitr; · iapply (records_inv m ρ K (c, k)); iexact HR
  iexact Hat

theorem places_end (c : Dev nD) :
    iprop(atPos ER (barCell c) 1 ∅ 0
      ∗ ((bigSep (Finset.univ.filter (c < ·)) fun j => atPos ER (sendCell c j) 1 ∅ 0) ∗ bigSep (Finset.univ.filter fun j => ¬ c < j) fun j => atPos ER (sendCell c j) 0 ∅ 0)
      ∗ ((bigSep (Finset.univ.filter (· < c)) fun j => atPos ER (recvCell c j) 1 ∅ 0) ∗ bigSep (Finset.univ.filter fun j => ¬ j < c) fun j => atPos ER (recvCell c j) 0 ∅ 0))
      ⊢ (places c (lastRound c) : sProp 𝕄) := by
  have hp (P : Dev nD → Prop) [DecidablePred P] (g : Dev nD → GSem nD τ sig) :
      (bigSep (Finset.univ.filter P) fun j => (atPos ER (g j) (if P j then 1 else 0) ∅ 0 : sProp 𝕄)) = bigSep (Finset.univ.filter P) fun j => atPos ER (g j) 1 ∅ 0 :=
    bigSep_congr fun j hj => by rw [if_pos (Finset.mem_filter.mp hj).2]
  have hn (P : Dev nD → Prop) [DecidablePred P] (g : Dev nD → GSem nD τ sig) :
      (bigSep (Finset.univ.filter fun j => ¬ P j) fun j => (atPos ER (g j) (if P j then 1 else 0) ∅ 0 : sProp 𝕄)) = bigSep (Finset.univ.filter fun j => ¬ P j) fun j => atPos ER (g j) 0 ∅ 0 :=
    bigSep_congr fun j hj => by rw [if_neg (Finset.mem_filter.mp hj).2]
  unfold places
  rw [bigSep_CK c, ← hp (c < ·) (sendCell c), ← hn (c < ·) (sendCell c), ← hp (· < c) (recvCell c), ← hn (· < c) (recvCell c)]
  exact Entails.refl _

/-! ## The whole -/

/-- The duties device `c` is to do. -/
def payToks (c : Dev nD) : sProp 𝕄 :=
  iprop((bigSep Finset.univ fun d : Dev nD => dutyTok ER (barCell d) 0 c)
    ∗ (bigSep Finset.univ fun j : Dev nD => dutyTok ER (sendCell c j) 0 j)
    ∗ bigSep Finset.univ fun j : Dev nD => dutyTok ER (recvCell j c) 0 c)
/-- Its scratch buffers. -/
def scr (c : Dev nD) : sProp 𝕄 :=
  iprop((∃ f : Buf (Elt F) ((c : Thread nD τ).loc cc0_scratch0), (((c : Thread nD τ).loc cc0_scratch0) ↦{fullShare} f))
    ∗ (∃ f : Buf (Elt F) ((c : Thread nD τ).loc cc0_scratch1), (((c : Thread nD τ).loc cc0_scratch1) ↦{fullShare} f))
    ∗ ∃ f : Buf (Elt F) ((c : Thread nD τ).loc cc0_scratch2), (((c : Thread nD τ).loc cc0_scratch2) ↦{fullShare} f))
/-- The credits it is launched with. -/
def credits (c : Dev nD) : sProp 𝕄 :=
  iprop(cred (tallyAt (barCell c) () 16) ∗ bigSep (Finset.univ.filter (· < c)) fun j => cred (tallyAt (recvCell c j) () N))

/-- The signals' state from the launch's resources; the slots of later devices' numbers stay here. -/
theorem signalSt_intro (c : Dev nD) :
    iprop(owesE c (O₀ c) ∗ (bigSep Finset.univ fun d : Dev nD => dutyTok ER (barCell d) 0 c)
        ∗ ∃ f : Buf (Elt F) ((c : Thread nD τ).loc cc0_scratch2), (((c : Thread nD τ).loc cc0_scratch2) ↦{fullShare} f))
      ⊢ iprop(signalSt c 0 ∗ bigSep (Finset.univ.filter fun j => ¬ j < c) fun j => iprop(∃ f, slotPts (F := F) c j f)) := by
  unfold signalSt O₀
  rw [todo_zero, Finset.filter_true_of_mem (fun _ _ => trivial), bigSep_sep']
  have hp : (bigSep Finset.univ fun d => barPay (F := F) d c) = bigSep (Finset.univ.filter (· < c)) fun j => iprop(∃ f, slotPts (F := F) c j f) :=
    (bigSep_filter Finset.univ (· < c) _).symm
  rw [hp]
  iintro ⟨HO, Ht, ⟨%f, Hs⟩⟩
  ihave Hs := ((slots_split c f).trans (Entails.of_eq (bigSep_halves (· < c) _))) $$ Hs
  icases Hs with ⟨Hs, Hr⟩
  isplitr [Hr]
  · isplitl [HO]; · iexact HO
    isplitl [Ht] <;> iassumption
  iexact Hr

theorem owedSignals_end (c : Dev nD) : owedCopies c 0 + owedSignals 16 = owedCopies c 0 := by
  unfold owedSignals; rw [todo_end, Finset.sum_empty, add_zero]
theorem owedCopies_end (c : Dev nD) : owedCopies c 16 = 0 := by
  unfold owedCopies; rw [todo_end, Finset.sum_empty]

theorem meetSt_intro (c : Dev nD) :
    iprop(signalSt c 16 ∗ cred (tallyAt (barCell c) () 16) ∗ atPos ER (barCell c) 0 ∅ 0
        ∗ (bigSep Finset.univ fun j : Dev nD => dutyTok ER (sendCell c j) 0 j) ∗ bigSep Finset.univ fun j : Dev nD => dutyTok ER (recvCell j c) 0 c)
      ⊢ (meetSt c : sProp 𝕄) := by
  unfold signalSt meetSt
  rw [owedSignals_end, bigSep_sep', bigSep_sep']
  iintro ⟨⟨HO, -⟩, Hc, Hat, Ht1, Ht2⟩
  isplitl [HO]; · iexact HO
  isplitl [Hc]; · iexact Hc
  isplitl [Hat]; · iexact Hat
  isplitl [Ht1]
  · iapply (bigSep_half (c < ·) fun j : Dev nD => (dutyTok ER (sendCell c j) 0 j : sProp 𝕄)); iexact Ht1
  iapply (bigSep_half (c < ·) fun j : Dev nD => (dutyTok ER (recvCell j c) 0 c : sProp 𝕄)); iexact Ht2

theorem sendSt_end (c : Dev nD) :
    sendSt m ρ c 16 ⊢ iprop(owesE c 0 ∗ bigSep (Finset.univ.filter (c < ·)) fun j => cred (tallyAt (sendCell c j) () N)) := by
  unfold sendSt
  rw [owedCopies_end, past_end]
  iintro ⟨HO, -, Hc⟩
  isplitl [HO] <;> iassumption

theorem bind_run (c : Dev nD) {α β : Type} (p : Pr F α) (k : α → Pr F β) (Q : β → sProp 𝕄) :
    wpB c p (fun a => wpB c (k a) Q) ⊢ wpB c (p >>= k) Q := Entails.of_eq (wp_bind ..).symm

/-- The slots and the totals whole again, the cells closed. -/
theorem finish_all (c : Dev nD) :
    iprop(records m ρ K
      ∗ (atPos ER (barCell c) 1 ∅ 0 ∗ gotSt c ∗ drainedSt m ρ c)
      ∗ ((bigSep (Finset.univ.filter fun j => ¬ c < j) fun j => atPos ER (sendCell c j) 0 ∅ 0)
        ∗ bigSep (Finset.univ.filter fun j => ¬ j < c) fun j => atPos ER (recvCell c j) 0 ∅ 0)
      ∗ (bigSep (Finset.univ.filter fun j => ¬ c < j) fun j => totPts m ρ c (leafOf j))
      ∗ (bigSep (Finset.univ.filter fun j => ¬ j < c) fun j => iprop(∃ f, slotPts (F := F) c j f))
      ∗ accPts c (accV m ρ c 16))
      ⊢ (iprop(|={Set.univ}=> (scr c ∗ zeros c)) : sProp 𝕄) := by
  unfold gotSt drainedSt
  iintro ⟨#HR, ⟨HatB, ⟨HatR, Hs⟩, HatS, Ht⟩, ⟨HatS', HatR'⟩, Ht', Hs', Ha⟩
  ihave Hat := (places_end c) $$ [HatB HatR HatS HatS' HatR']
  · isplitl [HatB]; · iexact HatB
    isplitl [HatS HatS']
    · isplitl [HatS] <;> iassumption
    isplitl [HatR] <;> iassumption
  imod (close_all m ρ K c) $$ [Hat] with Hz
  · isplitr; · iexact HR
    iexact Hat
  imodintro
  unfold scr accPts
  isplitr [Hz]
  · isplitl [Ht Ht']
    · iexists (tot m ρ c)
      iapply (Entails.of_eq ((leaves_split m ρ c).trans (bigSep_halves (c < ·) _)).symm)
      isplitl [Ht] <;> iassumption
    isplitl [Ha]; · iexists _; iexact Ha
    iapply (slots_join c)
    iapply (Entails.of_eq (bigSep_halves (· < c) fun j => iprop(∃ f, slotPts (F := F) c j f)).symm)
    isplitl [Hs] <;> iassumption
  iexact Hz

/-- The body, from what a device is launched with to the result. -/
theorem body_run (c : Dev nD) (Kt : PUnit → sProp 𝕄) :
    iprop((records m ρ K ∗ levAts L lv) ∗ owesE c (O₀ c) ∗ places c (fun _ => 0) ∗ payToks c ∗ credits c ∗ scr c ∗ xPts m ρ c
        ∗ ∃ g : Buf (Elt F) ((c : Thread nD τ).loc cc0_stg1_0), (((c : Thread nD τ).loc cc0_stg1_0) ↦{fullShare} g))
      ⊢ iprop(((owesE c 0 ∗ scr c ∗ zeros c ∗ xPts m ρ c ∗ resPts m ρ c) -∗ Kt ⟨⟩)
        -∗ wpB c (cc0_body (F := F) xM wx oM wo tM wt aM wa bM wb cc0_scratch3 cc0_scratch4) Kt) := by
  rw [body_eq]
  unfold payToks credits places
  rw [bigSep_CK c]
  iintro ⟨⟨#HR, #Hlev⟩, HO, ⟨HatB, ⟨HatS, HatS'⟩, HatR, HatR'⟩, ⟨HtB, HtS, HtR⟩, ⟨HcB, HcR⟩, Hscr, Hx, Hout⟩ Hk
  unfold scr
  icases Hscr with ⟨Hs0, Hs1, Hs2⟩
  ihave HS := (signalSt_intro c) $$ [HO HtB Hs2]
  · isplitl [HO]; · iexact HO
    isplitl [HtB] <;> iassumption
  icases HS with ⟨HS, Hslots⟩
  iapply (bind_run c _ _ _)
  iapply (part1_run m ρ K c _) $$ [HS]
  · isplitr; · iexact HR
    iexact HS
  iintro HS
  iapply (bind_run c _ _ _)
  iapply (part2_run m ρ K c _ _) $$ [HS]
  · isplitr; · iexact HR
    iexact HS
  iintro HS
  ihave HS := (meetSt_intro c) $$ [HS HcB HatB HtS HtR]
  · isplitl [HS]; · iexact HS
    isplitl [HcB]; · iexact HcB
    isplitl [HatB]; · iexact HatB
    isplitl [HtS] <;> iassumption
  iapply (bind_run c _ _ _)
  iapply (part3_run m ρ K c _) $$ [HS Hx Hs0]
  · isplitr
    · isplitr; · iexact HR
      iexact Hlev
    isplitl [HS]; · iexact HS
    isplitl [Hx] <;> iassumption
  iintro ⟨HS, Hx, HatB, Htot⟩
  iapply (bind_run c _ _ _)
  iapply (part4_run m ρ K c _ _) $$ [HS]
  · isplitr; · iexact HR
    iexact HS
  iintro HS
  ihave Hout := (outSt_intro c (xstg m ρ c)) $$ Hout
  iapply (bind_run c _ _ _)
  iapply (part5_run m ρ K c _) $$ [HS Hx Hout]
  · isplitr; · iexact HR
    isplitl [HS]; · iexact HS
    isplitl [Hx] <;> iassumption
  iintro ⟨HS, Hx, Hout⟩
  ihave HS := (sendSt_end m ρ c) $$ HS
  icases HS with ⟨HO, HcS⟩
  iapply (bind_run c _ _ _)
  iapply (part6_run m ρ K c _) $$ [Hout Hs1]
  · isplitr; · iexact HR
    isplitl [Hout] <;> iassumption
  iintro ⟨Hout, Ha⟩
  ihave HS := (recvSt_intro m ρ c) $$ [HO Ha HcR HatR]
  · isplitl [HO]; · iexact HO
    isplitl [Ha]; · iexact Ha
    isplitl [HcR] <;> iassumption
  iapply (bind_run c _ _ _)
  iapply (part7_run m ρ K c _) $$ [HS]
  · isplitr; · iexact HR
    iexact HS
  iintro HS
  iapply (bind_run c _ _ _)
  iapply (part8_run m ρ K c _) $$ [HS Hout HcS HatS]
  · isplitr; · iexact HR
    isplitl [HS]; · iexact HS
    isplitl [Hout]; · iexact Hout
    unfold sentSt
    isplitl [HcS] <;> iassumption
  iintro ⟨HS, Hgot, Hres, Ha⟩
  iapply (bind_run c _ _ _)
  iapply (part9_run m ρ K c _ _) $$ [HS]
  · isplitr; · iexact HR
    iexact HS
  iintro HS
  iapply (last_run m ρ K c _) $$ [HS]
  · isplitr; · iexact HR
    iexact HS
  iintro ⟨HO, Hdr⟩
  imod (finish_all m ρ K c) $$ [HatB Hgot Hdr HatS' HatR' Htot Hslots Ha] with ⟨Hscr, Hz⟩
  · isplitr; · iexact HR
    isplitl [HatB Hgot Hdr]
    · isplitl [HatB]; · iexact HatB
      isplitl [Hgot] <;> iassumption
    isplitl [HatS' HatR']
    · isplitl [HatS'] <;> iassumption
    isplitl [Htot]; · iexact Htot
    isplitl [Hslots] <;> iassumption
  imodintro
  iapply Hk
  unfold scr
  isplitl [HO]; · iexact HO
  isplitl [Hscr]; · iexact Hscr
  isplitl [Hz]; · iexact Hz
  isplitl [Hx] <;> iassumption

end Cert.KernelIdeal.Scan

end
-- ==== Proof.KernelIdeal.Run.lean ====
/-
  The launch: the cells allocated, the duties and credits dealt to the devices, and the run of the whole program.
-/
module

public import proofs.«01_k».proof.Proof.KernelIdeal.Body
public import proofs.«01_k».proof.Proof.Gen.KernelIdeal.Points
public import Idealize.ShloMosaic.Lib.Pipeline.CollectiveSegs

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What the launch makes for device `c`, under the names `K` of the cells' invariants. -/
def ghost (K : Dev nD × CK → ℕ) (c : Dev nD) : sProp 𝕄 := iprop(records m ρ K ∗ places c (fun _ => 0) ∗ payToks c)

def start (c : Dev nD) : sProp 𝕄 := iprop((∃ K, ghost m ρ K c) ∗ credits c ∗ levAts L lv)

def Φ₀ (c : Dev nD) : sProp 𝕄 := iprop(start m ρ c ∗ scr c)
def Φ₁ (c : Dev nD) : sProp 𝕄 := iprop(scr c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev point : Fin cfg0.N := t0_0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () point.castSucc
    ∗ (∃ d, stg c cc0_stg0_0 ((dats m ρ 0 c).before (0 : Fin 2) point d))
    ∗ (∃ d, stg c cc0_stg1_0 ((dats m ρ 0 c).before (1 : Fin 2) point d)))

def bodyPost (c : Dev nD) : sProp 𝕄 :=
  iprop(Φ₁ c ∗ (dats m ρ 0 c).owesAt () point.succ ∗ stg c cc0_stg0_0 (xstg m ρ c) ∗ stg c cc0_stg1_0 (outAt m ρ c))

theorem sound_body (c : Dev nD) :
    bodyPre m ρ c ⊢ wpB c (cc0_body (F := F) xM wx oM wo tM wt aM wa bM wb cc0_scratch3 cc0_scratch4) (fun _ => bodyPost m ρ c) := by
  unfold bodyPre Φ₀ start ghost Dat.owesAt Pipeline.owesWithin
  iintro ⟨⟨⟨⟨%K, #HR, Hat, Htok⟩, Hcr, #Hlev⟩, Hscr⟩, ⟨%W, %hW, HO⟩, ⟨%d0, %g0, %hg0, Hx⟩, ⟨%d1, %g1, %hg1, Hout⟩⟩
  have hx : g0 = xstg m ρ c := by rw [hg0]; unfold Dat.before; rw [if_pos (fetch0_0 point)]; rfl
  subst hx
  rw [show (dats m ρ 0 c).owed point.castSucc = O₀ c from rfl]
  iapply (body_run m ρ K c (fun _ => bodyPost m ρ c)) $$ [HO Hat Htok Hcr Hscr Hx Hout]
  · isplitr
    · isplitr; · iexact HR
      iexact Hlev
    isplitl [HO]; · unfold owesE; iexists W; iexact HO
    isplitl [Hat]; · iexact Hat
    isplitl [Htok]; · iexact Htok
    isplitl [Hcr]; · iexact Hcr
    isplitl [Hscr]; · iexact Hscr
    isplitl [Hx]; · unfold xPts; iexact Hx
    iexists g1; iexact Hout
  iintro ⟨HO, Hscr, Hz, Hx, Hres⟩
  unfold bodyPost Φ₁ Dat.owesAt Pipeline.owesWithin owesE xPts resPts
  rw [show (dats m ρ 0 c).owed point.succ = 0 from rfl]
  icases HO with ⟨%W', HO⟩
  isplitl [Hscr Hz]
  · isplitl [Hscr] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hres

set_option maxRecDepth 4000 in
theorem body_obligation (c : Dev nD) : BodyObligation (dats (F := F) m ρ 0 c) (defs₀ (F := F)) 𝒱₀ () Set.univ := fun t => by
  rw [show t = point from fin_N0 t]
  rw [bigSep_W0, bigSep_W0]
  simp only [owns_whole_eq]
  exact sound_body m ρ c

/-! ## The cells and their duties -/

abbrev osem : Dev nD ⊕ Dev nD → SemLoc sig := fun k => ckSem (.inr k)

theorem osem_scoped : ∀ k, (osem k).isScoped .tc = true := by decide +kernel
theorem osem_disj : ∀ k w s, osem k ≠ .dma ((cfg0.spec w).sem s) := by decide +kernel
theorem ownSemFacts : Pipeline.OwnSemFacts cfg0.spec osem :=
  ⟨osem_scoped, fun k k' h => Sum.inr_injective (ckSem_inj h), osem_disj⟩

theorem share_eq (c : Dev nD) (w : Fin cfg0.W) : (dats m ρ 0 c).share w = fullShare := by unfold Dat.share; split <;> rfl

def scanCells : Finset (GSem nD τ sig) := Finset.univ.map ⟨kcell, kcell_injective⟩

/-- A cell's duty as minted: the barrier cell's by the signalling device, a copy's by the device it names. -/
abbrev DK : Type := Dev nD ⊕ (Dev nD ⊕ Dev nD)
abbrev tokOf (ck : Dev nD × DK) : GSem nD τ sig × ℕ × Dev nD := match ck.2 with
  | .inl d => (barCell ck.1, 0, d)
  | .inr (.inl j) => (sendCell ck.1 j, 0, j)
  | .inr (.inr j) => (recvCell ck.1 j, 0, j)
theorem tokOf_injective : Function.Injective tokOf := by
  rintro ⟨c, k⟩ ⟨c', k'⟩ h
  have hd : (tokOf (c, k)).2.2 = (tokOf (c', k')).2.2 := congrArg (fun x => x.2.2) h
  have hs : (tokOf (c, k)).1.2 = (tokOf (c', k')).1.2 := congrArg (fun x => x.1.2) h
  have hc : (tokOf (c, k)).1.1.1 = (tokOf (c', k')).1.1.1 := congrArg (fun x => x.1.1.1) h
  rcases k with d | j | j <;> rcases k' with d' | j' | j'
  · exact Prod.ext hc (congrArg (fun d => (Sum.inl d : DK)) hd)
  · exact absurd hs.symm (send_ne_bar j')
  · exact absurd hs.symm (recv_ne_bar j')
  · exact absurd hs (send_ne_bar j)
  · exact Prod.ext hc (congrArg (fun j => (Sum.inr (Sum.inl j) : DK)) hd)
  · exact absurd hs (send_ne_recv j j')
  · exact absurd hs (recv_ne_bar j)
  · exact absurd hs (recv_ne_send j j')
  · exact Prod.ext hc (congrArg (fun j => (Sum.inr (Sum.inr j) : DK)) hd)
def scanToks : Finset (GSem nD τ sig × ℕ × Dev nD) := Finset.univ.map ⟨tokOf, tokOf_injective⟩

def u₀ : UU :=
  (initOf (Pipeline.cells cfgs cellOf_inj) (Pipeline.launchToks cfgs cellOf_inj), initOf scanCells scanToks)

/-- The duties at device `c`'s own cells. -/
def toks (c : Dev nD) : sProp 𝕄 :=
  iprop((bigSep Finset.univ fun d : Dev nD => dutyTok ER (barCell c) 0 d)
    ∗ (bigSep Finset.univ fun j : Dev nD => dutyTok ER (sendCell c j) 0 j)
    ∗ bigSep Finset.univ fun j : Dev nD => dutyTok ER (recvCell c j) 0 j)

/-- What the launch element deals device `c`, and what the global step makes of it. -/
def G (c : Dev nD) : sProp 𝕄 :=
  iprop((bigSep Finset.univ fun k : CK => roundState ER (scanRd m ρ) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, ghost m ρ K c)

theorem fund_scan : BI.own (ER (initOf scanCells scanToks)) ⊢ (|==> bigSep Finset.univ (G m ρ) : sProp 𝕄) := by
  have hX (Φ : GSem nD τ sig → sProp 𝕄) : bigSep scanCells Φ = bigSep Finset.univ fun c : Dev nD => bigSep Finset.univ fun k : CK => Φ (kcell (c, k)) := by
    unfold scanCells; rw [bigSep_map, bigSep_univ_prod]; rfl
  have hT : bigSep scanToks (fun x => (dutyTok ER x.1 x.2.1 x.2.2 : sProp 𝕄)) = bigSep Finset.univ fun c : Dev nD => toks c := by
    unfold scanToks; rw [bigSep_map, bigSep_univ_prod]
    exact bigSep_congr fun c _ => by unfold toks; rw [bigSep_univ_sum, bigSep_univ_sum]; rfl
  iintro HX
  imod (Rounds.fund ER (scanRd m ρ) scanCells scanToks) $$ HX with ⟨Hst, Hr, Hat, Htok⟩
  imodintro
  ihave Hst' := (Entails.of_eq (hX fun g => roundState ER (scanRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    (iprop(unscopedSems0 c ∗ Pipeline.ownSems0 (Ix := Unit) (Name := ℕ) (U := UU) (Lvl := ℕ) (Val := Elt F) (τ := τ) osem c) : sProp 𝕄) = zeros c := by
  unfold zeros Pipeline.ownSems0
  rw [unscopedSems0_eq, bigSep_univ_sum (fun k : CK => (semVal (kcell (c, k)) 0 : sProp 𝕄)), bigSep_univ_of_subsingleton (I := Unit) ()]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (scanRd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  unfold zeros
  imod (show iprop((bigSep Finset.univ fun k : CK => semVal (kcell (c, k)) 0) ∗ bigSep Finset.univ fun k : CK => roundState ER (scanRd m ρ) (kcell (c, k)) 0)
      ⊢ (|={Set.univ}=> bigSep Finset.univ fun k => iprop(∃ κ : ℕ, cellInv ER (scanRd m ρ) κ (kcell (c, k))) : sProp 𝕄) from by
        rw [← bigSep_sep']
        exact (bigSep_mono fun k _ => (Rounds.body_intro ER (scanRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties dealt to those who do them: a barrier or receive cell's to the device it is named after. -/
theorem toks_dealt : (bigSep Finset.univ fun c : Dev nD => (toks c : sProp 𝕄)) ⊢ bigSep Finset.univ fun c : Dev nD => payToks c := by
  unfold toks payToks
  rw [bigSep_sep', bigSep_sep', bigSep_sep', bigSep_sep',
    BI.bigSep_univ_comm (fun c d : Dev nD => (dutyTok ER (barCell c) 0 d : sProp 𝕄)),
    BI.bigSep_univ_comm (fun c j : Dev nD => (dutyTok ER (recvCell c j) 0 j : sProp 𝕄))]

theorem regroup :
    (bigSep Finset.univ fun c : Dev nD => iprop((bigSep Finset.univ fun k : CK => iprop(∃ κ : ℕ, cellInv ER (scanRd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (scanRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (scanRd m ρ) κ (kcell ck) : sProp 𝕄))) $$ HI
  icases HK with ⟨%K, #HI⟩
  ihave Htk := (toks_dealt (F := F)) $$ Htok
  iapply (bigSep_with (R := records m ρ K) (Φ := fun c => iprop(places c (fun _ => 0) ∗ payToks c)) fun c _ => by
    unfold G' ghost
    iintro ⟨#HR, H1, H2⟩
    iexists K
    isplitr; · iexact HR
    isplitl [H1] <;> iassumption)
  isplitr
  · unfold records; isplitl; · iexact HI
    iexact HR
  · rw [bigSep_sep']
    unfold places
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credits -/

theorem bar_eq_iff (a b : Dev nD) : barCell a = barCell b ↔ a = b :=
  ⟨fun h => congrArg (fun g : GSem nD τ sig => g.1.1) h, fun h => h ▸ rfl⟩
theorem recvCell_eq_iff (a b j j' : Dev nD) : recvCell a j = recvCell b j' ↔ a = b ∧ j = j' :=
  ⟨fun h => ⟨congrArg (fun g : GSem nD τ sig => g.1.1) h, (recv_eq_iff j j').mp (congrArg Prod.snd h)⟩, fun h => by rw [h.1, h.2]⟩

theorem signals_bar (c : Dev nD) : owedSignals 0 (barCell c) () = 1 := by
  unfold owedSignals
  rw [tallies_sum_apply, todo_zero, Finset.filter_true_of_mem (fun _ _ => trivial), Finset.sum_eq_single c]
  · rw [tallyAt_apply, if_pos ⟨rfl, rfl⟩]
  · intro d _ hd; rw [tallyAt_apply, if_neg fun h => hd ((bar_eq_iff c d).mp h.1).symm]
  · intro h; exact absurd (Finset.mem_univ c) h
theorem signals_recv (c j : Dev nD) : owedSignals 0 (recvCell c j) () = 0 := by
  rcases Nat.eq_zero_or_pos (owedSignals 0 (recvCell c j) ()) with h | h
  · exact h
  · obtain ⟨d, hd⟩ := owedSignals_pos h; exact absurd (congrArg Prod.snd hd) (recv_ne_bar j)
theorem copies_bar (d c : Dev nD) : owedCopies d 0 (barCell c) () = 0 := by
  rcases Nat.eq_zero_or_pos (owedCopies d 0 (barCell c) ()) with h | h
  · exact h
  · obtain ⟨j, hj⟩ := owedCopies_pos h; exact absurd (congrArg Prod.snd hj).symm (recv_ne_bar d)
theorem copies_recv (d : Dev nD) {c j : Dev nD} (hj : j < c) : owedCopies d 0 (recvCell c j) () = if d = j then N else 0 := by
  unfold owedCopies
  rw [tallies_sum_apply, todo_zero]
  by_cases e : d = j
  · subst e
    rw [if_pos rfl, Finset.sum_eq_single c]
    · rw [tallyAt_apply, if_pos ⟨rfl, rfl⟩]
    · intro i _ hi; rw [tallyAt_apply, if_neg fun h => hi ((recvCell_eq_iff _ _ _ _).mp h.1).1.symm]
    · intro h; exact absurd (Finset.mem_filter.mpr ⟨Finset.mem_univ _, hj⟩) h
  · rw [if_neg e]
    exact Finset.sum_eq_zero fun i _ => by rw [tallyAt_apply, if_neg fun h => e ((recvCell_eq_iff _ _ _ _).mp h.1).2.symm]

theorem launch_bar (c : Dev nD) :
    tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same,
    Finset.sum_congr rfl fun d _ => show O₀ d (barCell c) () = 1 from by
      unfold O₀; rw [Pi.add_apply, Finsupp.add_apply, copies_bar, signals_bar],
    Finset.sum_const, Finset.card_univ, Fintype.card_fin, smul_eq_mul]; rfl

theorem launch_recv {c j : Dev nD} (hj : j < c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same,
    Finset.sum_congr rfl fun d _ => show O₀ d (recvCell c j) () = if d = j then N else 0 from by
      unfold O₀; rw [Pi.add_apply, Finsupp.add_apply, copies_recv d hj, signals_recv, Nat.add_zero],
    Finset.sum_ite_eq' Finset.univ j fun _ => N, if_pos (Finset.mem_univ _)]

theorem creds (c : Dev nD) : (Pipeline.launchCred O₀ c : sProp 𝕄) ⊢ credits c := by
  unfold Pipeline.launchCred credits
  rw [bigSep_univ_at _ (SemLoc.reg barS), launch_bar]
  refine sep_mono_right ?_
  let e : Dev nD ↪ SemLoc sig := ⟨fun j => .dma (recvS j), fun j j' h => (recv_eq_iff j j').mp h⟩
  refine BI.Entails.trans (bigSep_subset (t := (Finset.univ.filter (· < c)).map e) (fun sm hs => ?_)) ?_
  · obtain ⟨j, -, rfl⟩ := Finset.mem_map.mp hs
    exact Finset.mem_erase.mpr ⟨recv_ne_bar j, Finset.mem_univ _⟩
  · rw [bigSep_map]
    have h : (bigSep (Finset.univ.filter (· < c)) fun j => (cred (tallyOn (recvCell c j) (launchCredit (Pipeline.owing O₀) 0 (recvCell c j))) : sProp 𝕄))
        = bigSep (Finset.univ.filter (· < c)) fun j => cred (tallyAt (recvCell c j) () N) :=
      bigSep_congr fun j hj => congrArg cred (launch_recv (Finset.mem_filter.mp hj).2)
    rw [← h]
    exact BI.Entails.refl _

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  iintro ⟨Hr, Hz⟩
  ihave Hz := (Entails.of_eq (sems0_eq (F := F) c).symm) $$ Hz
  icases Hz with ⟨Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution terminates; at the end each device's arrays hold the computed contents and every semaphore
    counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_scan m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is left as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Scan

end
-- ==== Proof.KernelIdeal.Ends.lean ====
/-
  What the run leaves: the argument as it was, the result buffer at the value the body computed, the counters at zero.
-/
module

public import proofs.«01_k».proof.Proof.KernelIdeal.Run

@[expose] public section

noncomputable section

namespace Cert.KernelIdeal.Scan

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-- A window over a whole array starts at its origin. -/
theorem origin0 : (fun a => (win0_0.index (0 : Fin 1)) a * main_arg0.ty.shape.size a) = fun _ => 0 :=
  funext fun a => by fin_cases a <;> decide
theorem origin1 : (fun a => (win0_1.index (0 : Fin 1)) a * main_v1.ty.shape.size a) = fun _ => 0 :=
  funext fun a => by fin_cases a <;> decide

/-- The staged block is the device's whole argument. -/
theorem xstg_eq (c : Dev nD) : xstg m ρ c = m ((c : Thread nD τ).loc main_arg0) :=
  Memref.read_access_unit_zero (Elt F) main_arg0 origin0 (fun a => by fin_cases a <;> decide) _

/-- The result buffer ends at what the body left in its staging buffer. -/
theorem finalA_o (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 origin1 (fun a => by fin_cases a <;> decide) _).symm.trans h

/-- The program's run, read at its argument and its result. -/
theorem run_ends : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0))
    ∧ r.2.sem = fun _ => 0) :=
  (θ_run defs _ _).mono (fun _ h => ⟨fun c => ⟨(h.1 c (1 : Fin 2)).trans (finalA_o m ρ c),
    (h.1 c (0 : Fin 2)).trans (finalA_x m ρ c)⟩, h.2⟩) (run_main m ρ)

end Cert.KernelIdeal.Scan

end
-- ==== Proof.Prefix.lean ====
/-
  Prefix sums of the columns of a matrix of extended reals: how far a column is summed is a natural number, and a sum over
  an index set cut by an order is a sum over an initial range. The reference's window sum, read at an entry, is such a
  prefix sum.
-/
module

public import proofs.«01_k».proof.Proof.Gen.ReferenceIdeal.Run
public import Idealize.ShloMosaic.PureOps.Ideal.Laws
public import Idealize.ShloMosaic.Lib.ValueIdxCore
public import Idealize.ShloMosaic.Lib.Layout

@[expose] public section

noncomputable section

namespace Cert.Prefix

open Idealize.ShloMosaic Idealize.ShloMosaic.ValueIdx
open scoped BigOperators

/-- Column `l` of an `n`-row matrix, zero past its end. -/
def col {n k : ℕ} (x : (⟨2, ![n, k]⟩ : Shape).Idx → EReal) (l : Fin k) (r : ℕ) : EReal :=
  if h : r < n then x (ix2 ⟨r, h⟩ l) else 0

theorem col_of_lt {n k : ℕ} (x : (⟨2, ![n, k]⟩ : Shape).Idx → EReal) (l : Fin k) {r : ℕ} (h : r < n) :
    col x l r = x (ix2 ⟨r, h⟩ l) := dif_pos h

/-- The sum of a column's first `q` entries. -/
def pre {n k : ℕ} (x : (⟨2, ![n, k]⟩ : Shape).Idx → EReal) (l : Fin k) (q : ℕ) : EReal := ∑ r ∈ Finset.range q, col x l r

theorem pre_add {n k : ℕ} (x : (⟨2, ![n, k]⟩ : Shape).Idx → EReal) (l : Fin k) (p q : ℕ) :
    pre x l (p + q) = pre x l p + ∑ r ∈ Finset.range q, col x l (p + r) := Finset.sum_range_add _ _ _

/-- A range cut down to its first `q` members. -/
theorem sum_cut (g : ℕ → EReal) {q N : ℕ} (h : q ≤ N) :
    (∑ k ∈ Finset.range N, if k < q then g k else 0) = ∑ k ∈ Finset.range q, g k := by
  rw [← Finset.sum_filter]
  refine Finset.sum_congr ?_ fun _ _ => rfl
  ext k
  simp only [Finset.mem_filter, Finset.mem_range]
  omega

/-- A range cut down to its members from `p` on. -/
theorem sum_tail (g : ℕ → EReal) (p q : ℕ) :
    (∑ k ∈ Finset.range (p + q), if p ≤ k then g (k - p) else 0) = ∑ k ∈ Finset.range q, g k := by
  rw [Finset.sum_range_add]
  have h0 : (∑ k ∈ Finset.range p, if p ≤ k then g (k - p) else 0) = 0 :=
    Finset.sum_eq_zero fun k hk => if_neg (by have := Finset.mem_range.1 hk; omega)
  rw [h0, zero_add]
  refine Finset.sum_congr rfl fun k _ => ?_
  rw [if_pos (Nat.le_add_right _ _), Nat.add_sub_cancel_left]

/-- A list summed from the left is the sum over its positions. -/
theorem foldl_finRange {n : ℕ} (g : Fin n → EReal) (v : EReal) :
    (List.finRange n).foldl (fun r i => r + g i) v = v + ∑ i, g i := by
  rw [Fin.sum_univ_def]
  generalize List.finRange n = L
  induction L generalizing v with
  | nil => simp
  | cons a L ih => rw [List.foldl_cons, ih, List.map_cons, List.sum_cons, add_assoc]

/-- A window sum whose windows reach from the top of the matrix down to the entry itself: the column's prefix sum. -/
theorem windowSum_apply {N K : ℕ} (x : (⟨2, ![N + 1, K]⟩ : Shape).Idx → EReal)
    (h : Shape.ReduceWindows ⟨2, ![N + 1, K]⟩ (![N + 1, 1] : Fin 2 → Nat) ![1, 1] ![N, 0] ![0, 0] ⟨2, ![N + 1, K]⟩)
    (R : Fin (N + 1)) (l : Fin K) :
    Ideal.hostReduceWindowAdd (![N + 1, 1] : Fin 2 → Nat) ![1, 1] ![N, 0] ![0, 0] h x 0 (ix2 R l) = pre x l (R.val + 1) := by
  have hR := R.isLt
  have hl := l.isLt
  let W : Shape := ⟨2, ![N + 1, 1]⟩
  let g : W.Idx → EReal := fun w => if N - R.val ≤ (w 0).val then col x l ((w 0).val - (N - R.val)) else 0
  unfold Ideal.hostReduceWindowAdd Host.reduceWindow
  refine (foldl_finRange (n := W.numel) _ _).trans ?_
  refine (zero_add _).trans ((Finset.sum_congr (g := fun n => g (W.rowMajor.symm n)) rfl fun n _ => ?_).trans ?_)
  · let w : W.Idx := W.rowMajor.symm n
    have hk : (w 0).val < N + 1 := (w 0).isLt
    have hb : (w 1).val < 1 := (w 1).isLt
    show _ = if N - R.val ≤ (w 0).val then col x l ((w 0).val - (N - R.val)) else 0
    by_cases hc : N - R.val ≤ (w 0).val
    · rw [if_pos hc, col_of_lt x l (r := (w 0).val - (N - R.val)) (by omega)]
      refine (dif_pos fun a => match a with
        | ⟨0, _⟩ => by show N ≤ R.val * 1 + (w 0).val ∧ R.val * 1 + (w 0).val - N < N + 1; omega
        | ⟨1, _⟩ => by show 0 ≤ l.val * 1 + (w 1).val ∧ l.val * 1 + (w 1).val - 0 < K; omega).trans
          (congrArg x (funext fun a => Fin.ext ?_))
      match a with
      | ⟨0, _⟩ => show R.val * 1 + (w 0).val - N = (w 0).val - (N - R.val); omega
      | ⟨1, _⟩ => show l.val * 1 + (w 1).val - 0 = l.val; omega
    · rw [if_neg hc]
      refine dif_neg fun hin => hc ?_
      have h0 : N ≤ R.val * 1 + (w 0).val := (hin 0).1
      omega
  rw [Equiv.sum_comp W.rowMajor.symm g, sum_idx2]
  simp only [Fin.sum_univ_one]
  show (∑ k : Fin (N + 1), if N - R.val ≤ k.val then col x l (k.val - (N - R.val)) else 0) = _
  rw [Fin.sum_univ_eq_sum_range (fun k => if N - R.val ≤ k then col x l (k - (N - R.val)) else 0)]
  have hN : N + 1 = (N - R.val) + (R.val + 1) := by omega
  exact (congrArg (fun M => ∑ k ∈ Finset.range M, if N - R.val ≤ k then col x l (k - (N - R.val)) else 0) hN).trans
    (sum_tail _ _ _)

/-- The reference's result at an entry. -/
theorem reference_apply (X : (⟨2, ![16384, 512]⟩ : Shape).Idx → EReal)
    (h : Shape.ReduceWindows ⟨2, ![16384, 512]⟩ (![16384, 1] : Fin 2 → Nat) ![1, 1] ![16383, 0] ![0, 0] ⟨2, ![16384, 512]⟩)
    (hu : 0 < (⟨0, ![]⟩ : Shape).numel) (hb : Shape.BroadcastsInDim ⟨0, ![]⟩ ⟨0, ![]⟩ ![]) (R : Fin 16384) (l : Fin 512) :
    Host.reduceWindowAdd (F := Ideal) (φ := .f32) ![16384, 1] ![1, 1] ![16383, 0] ![0, 0] X
      (broadcastInDim ⟨0, ![]⟩ ![] hb (constant ⟨0, ![]⟩ .f32 0x00000000#32)) h hu (ix2 R l) = pre X l (R.val + 1) := by
  unfold Host.reduceWindowAdd
  rw [show (broadcastInDim ⟨0, ![]⟩ ![] hb (constant (F := Ideal) ⟨0, ![]⟩ .f32 0x00000000#32)) (Shape.Idx.first hu) = 0 from
    Ideal.ofBits_zero_f32]
  exact windowSum_apply (N := 16383) (K := 512) X h R l

/-- Row `r` of block `c` of sixteen is row `1024 c + r` of the whole. -/
theorem block_at {α : Type} (hT : Layout.Tiles ⟨2, ![1024, 512]⟩ ⟨2, ![16384, 512]⟩ 0 16)
    (Y : (⟨2, ![16384, 512]⟩ : Shape).Idx → α) (c : Fin 16) (r : Fin 1024) (l : Fin 512) :
    (Layout.block ⟨2, ![1024, 512]⟩ ⟨2, ![16384, 512]⟩ 0 16 c Y hT) (ix2 r l) = Y (ix2 ⟨1024 * c.val + r.val, by omega⟩ l) := by
  refine congrArg Y (funext fun a => Fin.ext ?_)
  match a with
  | ⟨0, _⟩ => show c.val * 1024 + r.val = 1024 * c.val + r.val; omega
  | ⟨1, _⟩ => rfl

end Cert.Prefix

end
-- ==== Proof.Value.lean ====
/-
  The kernel's value at the exact operations: a block under the triangular product is its running sums, the carried row
  what precedes the block, the accumulator what precedes the device; together the prefix sum of the whole matrix.
-/
module

public import proofs.«01_k».proof.Proof.Prefix
public import proofs.«01_k».proof.Proof.KernelIdeal.Ends
public import Idealize.ShloMosaic.Lib.ValueIdx
public import Idealize.ShloMosaic.Lib.ValueLayout
public import Idealize.ShloMosaic.Lib.MatmulPlain
public import Idealize.ShloMosaic.Lib.Layout
public import Idealize.ShloMosaic.Lib.IdealHost
public import Idealize.ShloMosaic.Lib.WordCmp

@[expose] public section

noncomputable section

namespace Cert.KernelIdeal.Scan

open Cert.KernelIdeal Cert.KernelIdeal.Gen Cert.Prefix
open Idealize.ShloMosaic Idealize.ShloMosaic.ValueIdx
open Idealize.ShloMosaic.TcCoe
open Idealize.SL.Sem
open scoped BigOperators

/-! ## One device -/

/-- The mask: one on and below the diagonal, zero above it. -/
theorem tri_apply (r k : Fin 128) : (k0_pay2 (F := Ideal)) (ix2 r k) = if k.val < r.val + 1 then 1 else 0 := by
  have hr := r.isLt
  have hk := k.isLt
  show Scalar.select (IntOp.cmpi .sge (iota .tc S128x128 32 [0] iota_S128x128_d0_w32 (ix2 r k)) (iota .tc S128x128 32 [1] iota_S128x128_d1_w32 (ix2 r k)))
    (Ideal.ofBits .f32 0x3F800000#32) (Ideal.ofBits .f32 0x00000000#32) = _
  rw [iota_single_apply, iota_single_apply, Ideal.ofBits_one_f32, Ideal.ofBits_zero_f32]
  show Scalar.select (IntOp.cmpi .sge (BitVec.ofNat 32 r.val) (BitVec.ofNat 32 k.val)) (1 : EReal) 0 = _
  rw [WordCmp.cmpi_sge_ofNat (show r.val < 2 ^ 31 by omega) (show k.val < 2 ^ 31 by omega)]
  by_cases h : k.val ≤ r.val
  · rw [decide_eq_true h, if_pos (show k.val < r.val + 1 by omega)]; rfl
  · rw [decide_eq_false h, if_neg (show ¬ k.val < r.val + 1 by omega)]; rfl

/-- A block under the triangular product: its running sums. -/
theorem triB_apply (x : Vec Ideal S1024x512 .f32) (b : Fin 8) (r : Fin 128) (l : Fin 512) :
    triB x b (ix2 r l) = ∑ k ∈ Finset.range (r.val + 1), col (n := 1024) (k := 512) x l (128 * b.val + k) := by
  have hb := b.isLt
  have hr := r.isLt
  refine (Ideal.matmul_plain_apply (M := 128) (K := 128) (N := 512) none (k0_pay2 (F := Ideal)) _ _ r l).trans ?_
  rw [show (constant S128x512 .f32 0x00000000#32 : FVec Ideal S128x512 .f32) (ix2 r l) = 0 from Ideal.ofBits_zero_f32, zero_add]
  rw [← sum_cut _ (show r.val + 1 ≤ 128 by omega), ← Fin.sum_univ_eq_sum_range (fun k => if k < r.val + 1 then col (n := 1024) (k := 512) x l (128 * b.val + k) else 0)]
  refine Finset.sum_congr rfl fun k _ => ?_
  have hk := k.isLt
  rw [tri_apply]
  by_cases h : k.val < r.val + 1
  · rw [if_pos h, if_pos h, one_mul, col_of_lt _ _ (show 128 * b.val + k.val < 1024 by omega)]
    refine (extractStridedSlice_apply _ _ _ _ (ix2 (⟨128 * b.val + k.val, by omega⟩ : Fin 1024) l) fun a => ?_).trans ?_
    · match a with
      | ⟨0, _⟩ => rfl
      | ⟨1, _⟩ => show l.val = 0 + l.val; omega
    · unfold k0_pay3; rw [shapeCast_self]
  · rw [if_neg h, if_neg h, zero_mul]

/-- What is carried into a block: the sums of everything above it. -/
theorem carry_apply (x : Vec Ideal S1024x512 .f32) (l : Fin 512) : ∀ (b : ℕ) (hb : b < 8),
    carry x b hb (ix2 (0 : Fin 1) l) = pre (n := 1024) (k := 512) x l (128 * b)
  | 0, _ => by
    show Ideal.ofBits .f32 0x00000000#32 = _
    rw [Ideal.ofBits_zero_f32]
    exact (Finset.sum_range_zero _).symm
  | b + 1, hb => by
    show carry x b (by omega) (ix2 (0 : Fin 1) l)
      + extractStridedSlice S1x512 ![127, 0] (triB x ⟨b, by omega⟩) slices_S128x512_o127_0_S1x512 (ix2 (0 : Fin 1) l) = _
    rw [carry_apply x l b (by omega), Nat.mul_succ, pre_add]
    refine congrArg _ ((extractStridedSlice_apply _ _ _ _ (ix2 (127 : Fin 128) l) fun a => ?_).trans (triB_apply x ⟨b, by omega⟩ 127 l))
    match a with
    | ⟨0, _⟩ => rfl
    | ⟨1, _⟩ => show l.val = 0 + l.val; omega

/-- The local result: the column's prefix sums. -/
theorem locA_apply (x : Vec Ideal S1024x512 .f32) (r : Fin 1024) (l : Fin 512) :
    locA x (ix2 r l) = pre (n := 1024) (k := 512) x l (r.val + 1) := by
  have hr := r.isLt
  have e : locA x (ix2 r l) = blockV x ⟨r.val / 128, by omega⟩ (ix2 (⟨r.val % 128, by omega⟩ : Fin 128) l) := by
    unfold locA
    refine congrArg (blockV x ⟨r.val / 128, by omega⟩) (funext fun a => ?_)
    match a with
    | ⟨0, _⟩ => rfl
    | ⟨1, _⟩ => rfl
  rw [e]
  show triB x _ _ + broadcastTo S128x512 (carry x (r.val / 128) _) broadcasts_S1x512_S128x512 _ = _
  rw [triB_apply, broadcastTo_apply _ _ _ (ix2 (0 : Fin 1) l) (fun a => match a with
    | ⟨0, _⟩ => rfl
    | ⟨1, _⟩ => rfl), carry_apply, add_comm]
  show _ + ∑ k ∈ Finset.range (r.val % 128 + 1), col (n := 1024) (k := 512) x l (128 * (r.val / 128) + k) = _
  rw [← pre_add]
  exact congrArg _ (by omega)

/-- The column totals. -/
theorem total_apply (x : Vec Ideal S1024x512 .f32) (l : Fin 512) :
    k0_pay1 x (ix2 (0 : Fin 1) l) = pre (n := 1024) (k := 512) x l 1024 := by
  unfold k0_pay1
  rw [shapeCast_self, shapeCast_self]
  refine (shapeCast_a_1a_apply (a := 512) _ shapeCasts_S512_S1x512 0 l).trans ?_
  refine (Ideal.multiReduction_add_single (φ := .f32) (x : FVec Ideal S1024x512 .f32) _ reduces_S1024x512_S512 _ _ (ix1 l)).trans ?_
  unfold pre
  rw [← Fin.sum_univ_eq_sum_range (fun k => col (n := 1024) (k := 512) x l k)]
  refine Finset.sum_congr rfl fun k _ => ?_
  refine Eq.trans ?_ (col_of_lt (n := 1024) (k := 512) x l (r := k.val) k.isLt).symm
  refine congrArg x (funext fun a => ?_)
  match a with
  | ⟨0, _⟩ => rfl
  | ⟨1, _⟩ => rfl

/-! ## The mesh -/

variable (m : (ℓ : Loc nD τ sig) → Buf (Elt Ideal) ℓ) (ρ : Dev nD → PrngReg)
  (X : (⟨2, ![16384, 512]⟩ : Shape).Idx → EReal)
  (hT : Layout.Tiles ⟨2, ![1024, 512]⟩ ⟨2, ![16384, 512]⟩ 0 16)
  (hX : ∀ c : Dev nD, m ((c : Thread nD τ).loc main_arg0) = Layout.block ⟨2, ![1024, 512]⟩ ⟨2, ![16384, 512]⟩ 0 16 c X hT)

include hX

/-- A device's column is a stretch of the whole matrix's. -/
theorem col_xstg (c : Dev nD) (l : Fin 512) (r : ℕ) (hr : r < 1024) :
    col (n := 1024) (k := 512) (xstg m ρ c) l r = col X l (1024 * c.val + r) := by
  have hc : c.val < 16 := c.isLt
  rw [col_of_lt _ _ hr, col_of_lt _ _ (show 1024 * c.val + r < 16384 by omega), xstg_eq, hX]
  refine congrArg X (funext fun a => Fin.ext ?_)
  match a with
  | ⟨0, _⟩ => show c.val * 1024 + r = 1024 * c.val + r; omega
  | ⟨1, _⟩ => rfl

theorem pre_xstg (c : Dev nD) (l : Fin 512) (q : ℕ) (hq : q ≤ 1024) :
    pre X l (1024 * c.val) + pre (n := 1024) (k := 512) (xstg m ρ c) l q = pre X l (1024 * c.val + q) := by
  rw [pre_add]
  refine congrArg _ (Finset.sum_congr rfl fun r hr => col_xstg m ρ X hT hX c l r ?_)
  have := Finset.mem_range.1 hr
  omega

/-- The accumulator: the sums of everything the earlier devices hold. -/
theorem accV_apply (c : Dev nD) (l : Fin 512) : ∀ k : ℕ, accV m ρ c k (ix2 (0 : Fin 1) l) = pre X l (1024 * min k c.val)
  | 0 => by
    show (k0_pay26 (F := Ideal)) (ix2 (0 : Fin 1) l) = _
    unfold k0_pay26
    rw [shapeCast_self, Nat.zero_min]
    exact Ideal.ofBits_zero_f32.trans (Finset.sum_range_zero _).symm
  | k + 1 => by
    unfold accV
    by_cases h : k < c.val
    · rw [dif_pos h]
      unfold accUp
      rw [shapeCast_self]
      refine (congrArg₂ (fun a b : EReal => a + b) (accV_apply c l k) (total_apply (xstg m ρ ⟨k, h.trans c.isLt⟩) l)).trans ?_
      rw [Nat.min_eq_left h.le, Nat.min_eq_left (show k + 1 ≤ c.val from h)]
      exact (pre_xstg m ρ X hT hX ⟨k, h.trans c.isLt⟩ l 1024 le_rfl).trans (congrArg _ (by show 1024 * k + 1024 = _; omega))
    · rw [dif_neg h, accV_apply c l k]
      exact congrArg _ (by omega)

/-- What device `c` stores: its block of the whole matrix's prefix sums. -/
theorem outAt_apply (c : Dev nD) (r : Fin 1024) (l : Fin 512) :
    outAt m ρ c (ix2 r l) = pre X l (1024 * c.val + r.val + 1) := by
  have hc : c.val < 16 := c.isLt
  have hr := r.isLt
  unfold outAt k0_pay43
  rw [shapeCast_self]
  show locA (xstg m ρ c) (ix2 r l) + broadcastTo S1024x512 (accV m ρ c 16) broadcasts_S1x512_S1024x512 (ix2 r l) = _
  rw [locA_apply, broadcastTo_apply _ _ _ (ix2 (0 : Fin 1) l) (fun a => match a with
    | ⟨0, _⟩ => rfl
    | ⟨1, _⟩ => rfl), accV_apply m ρ X hT hX, add_comm, Nat.min_eq_right hc.le, pre_xstg m ρ X hT hX c l _ (by omega)]
  rfl

end Cert.KernelIdeal.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Kernel.Ends
public import proofs.«01_k».proof.Proof.KernelIdeal.Ends
public import proofs.«01_k».proof.Proof.Value
public import Idealize.ShloMosaic.Lib.QuiescentFlight

@[expose] public section

noncomputable section

namespace Cert.Proof

open Idealize.ShloMosaic Idealize.ShloMosaic.ValueIdx Idealize.SL.Sem

theorem frame_kernel : Cert.quiescent_Kernel (hKernel := Cert.Kernel.Gen.facts) := fun m ρ _ =>
  (θ_run Cert.Kernel.defs _ _).mono (fun _ h => ⟨fun c => (h.1 c).2, h.2⟩) (Cert.Kernel.Scan.run_ends (F := Bits) m ρ)

theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Scan.run_ends (F := Ideal) m ρ)

/-- The reference declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both sides at entry (r, l) of device `c`'s block are the sum of the first `1024 c + r + 1` entries of column `l`. -/
theorem algebraic : Cert.algebraic_KernelIdeal_ReferenceIdeal (hKernelIdeal := Cert.KernelIdeal.Gen.facts)
    (hReferenceIdeal := Cert.ReferenceIdeal.Gen.facts) := by
  intro m ρ m' ρ' _ hX
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).1.trans ?_, (h.1 c).2⟩)
    (Cert.KernelIdeal.Scan.run_ends (F := Ideal) m ρ)
  funext i
  have hi : i = ix2 (n0 := 1024) (n1 := 512) (i 0) (i 1) := eq_ix2 (n0 := 1024) (n1 := 512) i
  rw [hi]
  exact (Cert.KernelIdeal.Scan.outAt_apply m ρ _ _ hX c (i 0) (i 1)).trans
    ((Cert.Prefix.block_at _ _ c (i 0) (i 1)).trans (Cert.Prefix.reference_apply _ _ _ _ _ (i 1))).symm

theorem claim : Cert.Claim := ⟨Cert.Kernel.Gen.facts, Cert.KernelIdeal.Gen.facts, Cert.ReferenceIdeal.Gen.facts,
  frame_kernel, frame_kernelIdeal, frame_reference, trivial, algebraic⟩

end Cert.Proof

end
